-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S4096x512 : Shape := ⟨2, ![4096, 512]⟩
abbrev S512x256 : Shape := ⟨2, ![512, 256]⟩
abbrev S256 : Shape := ⟨1, ![256]⟩
abbrev S4096x256 : Shape := ⟨2, ![4096, 256]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S4096x16 : Shape := ⟨2, ![4096, 16]⟩
abbrev S4096x15 : Shape := ⟨2, ![4096, 15]⟩

class Facts : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  sliceFits_S4096x4096_S4096x16 : S4096x4096.Slices (fun _ => 0) S4096x16
  slices_S4096x16_S4096x15_0_0 : S4096x16.Slices ![0, 0] S4096x15
  slices_S4096x16_S4096x15_0_1 : S4096x16.Slices ![0, 1] S4096x15
  dot_S4096x512_S512x256_S4096x256_1_0_0_1_n_n_wf : DotDims.WF S4096x512 S512x256 S4096x256 [1] [0] [0] [1] [] []
  dot_S4096x256_S256x4096_S4096x4096_1_0_0_1_n_n_wf : DotDims.WF S4096x256 S256x4096 S4096x4096 [1] [0] [0] [1] [] []

variable [Facts]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def fn_norm {F : FTy → Type} [FloatOps F] (arg0 : FVec F S4096x256 .f32) : FVec F S4096x1 .f32 :=
  let v0 : FVec F S4096x256 .f32 := mulf arg0 arg0
  let cst : FVec F S_ .f32 := constant S_ .f32 0x00000000#32
  let v1 : FVec F S4096 .f32 := (fun x v => Host.reduceAdd x v reducesTo_S4096x256_S4096_d1 h_S_) v0 cst
  let v2 : FVec F S4096x1 .f32 := broadcastInDim S4096x1 ![0] bcast_S4096_S4096x1_0 v1
  let v3 : FVec F S4096x1 .f32 := Host.sqrt v2
  v3

def fn {F : FTy → Type} [FloatOps F] (main_arg0 : FVec F S4096x512 .f32) (main_arg1 : FVec F S512x256 .f32) (main_arg2 : FVec F S256 .f32) : IVec S4096x15 1 :=
  let main_v0 : FVec F S4096x256 .f32 := (fun l r => Host.dotGeneral dot_S4096x512_S512x256_S4096x256_1_0_0_1_n_n none l r) main_arg0 main_arg1
  let main_v1 : FVec F S1x256 .f32 := broadcastInDim S1x256 ![1] bcast_S256_S1x256_1 main_arg2
  let main_v2 : FVec F S4096x256 .f32 := broadcastInDim S4096x256 ![0, 1] bcast_S1x256_S4096x256_0_1 main_v1
  let main_v3 : FVec F S4096x256 .f32 := addf main_v0 main_v2
  let main_v4 : FVec F S4096x1 .f32 := fn_norm (F := F) main_v3
  let main_cst : FVec F S_ .f32 := constant S_ .f32 0x2B8CBCCC#32
  let main_v5 : FVec F S4096x1 .f32 := broadcastInDim S4096x1 ![] bcast_S_S4096x1 main_cst
  let main_v6 : FVec F S4096x1 .f32 := maximumf main_v4 main_v5
  let main_v7 : FVec F S4096x256 .f32 := broadcastInDim S4096x256 ![0, 1] bcast_S4096x1_S4096x256_0_1 main_v6
  let main_v8 : FVec F S4096x256 .f32 := Host.divf main_v3 main_v7
  let main_v9 : FVec F S256x4096 .f32 := (transpose S256x4096 [1, 0] · transposes_S4096x256_S256x4096_1_0) main_v8
  let main_v10 : FVec F S4096x4096 .f32 := (fun l r => Host.dotGeneral dot_S4096x256_S256x4096_S4096x4096_1_0_0_1_n_n none l r) main_v8 main_v9
  let main_values : FVec F S4096x16 .f32 := (fun x => (Host.topK S4096x16 1 (FloatOps.cmpfTotal .gt) x sliceFits_S4096x4096_S4096x16).1) main_v10
  let main_indices : IVec S4096x16 32 := (fun x => (Host.topK S4096x16 1 (FloatOps.cmpfTotal .gt) x sliceFits_S4096x4096_S4096x16).2) main_v10
  let main_v11 : FVec F S4096x15 .f32 := (extractStridedSlice S4096x15 ![0, 0] · slices_S4096x16_S4096x15_0_0) main_values
  let main_v12 : FVec F S4096x15 .f32 := (extractStridedSlice S4096x15 ![0, 1] · slices_S4096x16_S4096x15_0_1) main_values
  let main_v13 : IVec S4096x15 1 := cmpf .ogt main_v11 main_v12
  main_v13
-- ==== Kernel.lean ====
abbrev S4096x512 : Shape := ⟨2, ![4096, 512]⟩
abbrev S512x256 : Shape := ⟨2, ![512, 256]⟩
abbrev S256 : Shape := ⟨1, ![256]⟩
abbrev S4096x256 : Shape := ⟨2, ![4096, 256]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x128 : Shape := ⟨3, ![1, 512, 128]⟩
abbrev S1 : Shape := ⟨1, ![1]⟩
abbrev S1x1x1 : Shape := ⟨3, ![1, 1, 1]⟩
abbrev S1x512x1 : Shape := ⟨3, ![1, 512, 1]⟩

abbrev nBuf : Space → Nat
  | .hbm => 18
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x256, .f32⟩
  | .hbm, ⟨2, _⟩ => ⟨S256, .f32⟩
  | .hbm, ⟨3, _⟩ => ⟨S4096x256, .f32⟩
  | .hbm, ⟨4, _⟩ => ⟨S1x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S4096x4096, .f32⟩
  | .local _ .vmem, ⟨0, _⟩ => ⟨S512x256, .f32⟩
  | .local _ .vmem, ⟨1, _⟩ => ⟨S512x256, .f32⟩
  | .local _ .vmem, ⟨2, _⟩ => ⟨S4096x256, .f32⟩
  | .local _ .vmem, ⟨3, _⟩ => ⟨S512x4096, .f32⟩
  | .local _ .vmem, ⟨4, _⟩ => ⟨S512x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_33 : Index := 0#32
  let arg0 : BitVec 32 := BitVec.ofNat 32 (i 0).val
  let c512_i32 : BitVec 32 := 512#32
  let v389 : BitVec 32 := Scalar.muli arg0 c512_i32
  let v390 : Index := Scalar.indexCast v389
  ![0, v390.toNat]
def k0_off2 (i : grid0.Coords) : Fin 2 → Nat :=
  let c0_76 : Index := 0#32
  let arg0 : BitVec 32 := BitVec.ofNat 32 (i 0).val
  let c512_i32_75 : BitVec 32 := 512#32
  let v505 : BitVec 32 := Scalar.muli arg0 c512_i32_75
  let v506 : Index := Scalar.indexCast v505
  ![0, v506.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x512 : Shape := ⟨2, ![4096, 512]⟩
abbrev S512x256 : Shape := ⟨2, ![512, 256]⟩
abbrev S256 : Shape := ⟨1, ![256]⟩
abbrev S4096x256 : Shape := ⟨2, ![4096, 256]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S4096x15 : Shape := ⟨2, ![4096, 15]⟩
abbrev S4096x15x1 : Shape := ⟨3, ![4096, 15, 1]⟩
abbrev S4096x15x2 : Shape := ⟨3, ![4096, 15, 2]⟩

abbrev nBuf : Space → Nat
  | .hbm => 58
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x256, .f32⟩
  | .hbm, ⟨2, _⟩ => ⟨S256, .f32⟩
  | .hbm, ⟨3, _⟩ => ⟨S4096x256, .f32⟩
  | .hbm, ⟨4, _⟩ => ⟨S1x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S256x4096, .f32⟩
  | .hbm, ⟨18, _⟩ => ⟨S4096x4096, .f32⟩
  | .hbm, ⟨19, _⟩ => ⟨S4096x15, .f32⟩
  | .hbm, ⟨20, _⟩ => ⟨S4096x15, .i32⟩
  | .hbm, ⟨21, _⟩ => ⟨S4096, .i32⟩
  | .hbm, ⟨22, _⟩ => ⟨S4096x1, .i32⟩
  | .hbm, ⟨23, _⟩ => ⟨S_, .f32⟩
  | .hbm, ⟨24, _⟩ => ⟨S4096x4096, .f32⟩
  | .hbm, ⟨25, _⟩ => ⟨S_, .i32⟩
  | .hbm, ⟨26, _⟩ => ⟨S4096x1, .i32⟩
  | .hbm, ⟨27, _⟩ => ⟨S4096x1, .i1⟩
  | .hbm, ⟨28, _⟩ => ⟨S_, .i32⟩
  | .hbm, ⟨29, _⟩ => ⟨S4096x1, .i32⟩
  | .hbm, ⟨30, _⟩ => ⟨S4096x1, .i32⟩
  | .hbm, ⟨31, _⟩ => ⟨S4096x1, .i32⟩
  | .hbm, ⟨32, _⟩ => ⟨S_, .i32⟩
  | .hbm, ⟨33, _⟩ => ⟨S4096x15, .i32⟩
  | .hbm, ⟨34, _⟩ => ⟨S4096x15, .i1⟩
  | .hbm, ⟨35, _⟩ => ⟨S_, .i32⟩
  | .hbm, ⟨36, _⟩ => ⟨S4096x15, .i32⟩
  | .hbm, ⟨37, _⟩ => ⟨S4096x15, .i32⟩
  | .hbm, ⟨38, _⟩ => ⟨S4096x15, .i32⟩
  | .hbm, ⟨39, _⟩ => ⟨S4096x15, .i32⟩
  | .hbm, ⟨40, _⟩ => ⟨S4096x15x1, .i32⟩
  | .hbm, ⟨41, _⟩ => ⟨S4096x15x1, .i32⟩
  | .hbm, ⟨42, _⟩ => ⟨S4096x15x2, .i32⟩
  | .hbm, ⟨43, _⟩ => ⟨S_, .f32⟩
  | .hbm, ⟨44, _⟩ => ⟨S4096x15, .f32⟩
  | .hbm, ⟨45, _⟩ => ⟨S4096x4096, .f32⟩
  | .hbm, ⟨46, _⟩ => ⟨S4096x4096, .i32⟩
  | .hbm, ⟨47, _⟩ => ⟨S4096x4096, .i32⟩
  | .hbm, ⟨48, _⟩ => ⟨S_, .i32⟩
  | .hbm, ⟨49, _⟩ => ⟨S4096x4096, .i32⟩
  | .hbm, ⟨50, _⟩ => ⟨S4096x4096, .i32⟩
  | .hbm, ⟨51, _⟩ => ⟨S4096x4096, .i1⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_values : Ref sig .tc := ⟨.hbm, 19, rfl⟩
abbrev main_indices : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Proof.Rank.lean ====
/- The mathematics of the selection, over any linear order with a least element: what four kept values of a lane say of
   the lane's entries, what the rounds down the lanes' heads find, what the repeated strict maxima find, and when such a
   threshold selects the same entries as the fifteenth greatest. No vector and no program appears here. -/
module

public import Mathlib.Data.Finset.Lattice.Fold
public import Mathlib.Data.Fintype.BigOperators
public import Mathlib.Data.Fintype.Lattice
public import Mathlib.Algebra.Order.BigOperators.Group.Finset
public import Mathlib.Tactic.WLOG
public import Mathlib.Tactic.SplitIfs

@[expose] public section

noncomputable section

namespace Cert.Sim.Rank

open Finset

variable {α ι J : Type} [LinearOrder α] [OrderBot α] [Fintype ι] [DecidableEq ι] [Nonempty ι] [Fintype J] [DecidableEq J]

/-! ## Four values of a lane -/

/-- A lane's four kept values. -/
abbrev Quad (α : Type) := α × α × α × α

/-- One more entry `v` inserted into the four kept values. -/
def ins (v : α) (q : Quad α) : Quad α :=
  (max q.1 v, max q.2.1 (min q.1 v), max q.2.2.1 (min q.2.1 (min q.1 v)),
    max q.2.2.2 (min q.2.2.1 (min q.2.1 (min q.1 v))))

/-- The four values kept of the first `n` entries. -/
def fold4 (v : Nat → α) : Nat → Quad α
  | 0 => (⊥, ⊥, ⊥, ⊥)
  | n + 1 => ins (v n) (fold4 v n)

/-- A lane's `i`-th kept value, the least element past the fourth. -/
def nth (q : Quad α) : Nat → α
  | 0 => q.1
  | 1 => q.2.1
  | 2 => q.2.2.1
  | 3 => q.2.2.2
  | _ + 4 => ⊥

/-- How many of the first `n` entries are at least `x`. -/
def cnt (v : Nat → α) (n : Nat) (x : α) : Nat := #{c ∈ range n | x ≤ v c}

theorem cnt_succ (v : Nat → α) (n : Nat) (x : α) : cnt v (n + 1) x = cnt v n x + if x ≤ v n then 1 else 0 := by
  unfold cnt
  rw [range_add_one, filter_insert]
  split_ifs with h
  · rw [card_insert_of_notMem (by simp)]
  · rfl

/-- Above the least element, `x` is at most the `i`-th kept value exactly if more than `i` entries are at least `x`. -/
theorem le_fold4 (v : Nat → α) (x : α) (hx : ⊥ < x) (n : Nat) :
    (x ≤ (fold4 v n).1 ↔ 1 ≤ cnt v n x) ∧ (x ≤ (fold4 v n).2.1 ↔ 2 ≤ cnt v n x)
      ∧ (x ≤ (fold4 v n).2.2.1 ↔ 3 ≤ cnt v n x) ∧ (x ≤ (fold4 v n).2.2.2 ↔ 4 ≤ cnt v n x) := by
  induction n with
  | zero => simp [fold4, cnt, hx.ne']
  | succ n ih =>
    obtain ⟨h1, h2, h3, h4⟩ := ih
    rw [cnt_succ]
    simp only [fold4, ins, le_max_iff, le_min_iff, h1, h2, h3, h4]
    by_cases h : x ≤ v n
    · simp only [h, if_true, and_true, or_true, true_iff]
      refine ⟨?_, ?_, ?_, ?_⟩ <;> omega
    · simp only [h, if_false, and_false, or_false]
      refine ⟨?_, ?_, ?_, ?_⟩ <;> omega

/-- The same, the four cases in one. -/
theorem le_nth (v : Nat → α) (x : α) (hx : ⊥ < x) (n i : Nat) :
    x ≤ nth (fold4 v n) i ↔ i < 4 ∧ i < cnt v n x := by
  obtain ⟨h1, h2, h3, h4⟩ := le_fold4 v x hx n
  match i with
  | 0 => simp only [nth, h1]; omega
  | 1 => simp only [nth, h2]; omega
  | 2 => simp only [nth, h3]; omega
  | 3 => simp only [nth, h4]; omega
  | i + 4 => simp only [nth]; constructor
             · intro h; exact absurd h (not_le.2 hx)
             · omega

/-! ## The rounds down the lanes' heads -/

/-- The lanes' positions and the greatest head: after `k` rounds lane `l` stands at its `(pos M k l)`-th value. -/
def pos (M : ι → Nat → α) : Nat → ι → Nat
  | 0, _ => 0
  | k + 1, l => if M l (pos M k l) = univ.sup fun l => M l (pos M k l) then pos M k l + 1 else pos M k l

/-- The greatest head after `k` rounds. -/
def head (M : ι → Nat → α) (k : Nat) : α := univ.sup fun l => M l (pos M k l)

theorem pos_succ (M : ι → Nat → α) (k : Nat) (l : ι) :
    pos M (k + 1) l = if M l (pos M k l) = head M k then pos M k l + 1 else pos M k l := rfl

theorem le_head (M : ι → Nat → α) (k : Nat) (l : ι) : M l (pos M k l) ≤ head M k :=
  le_sup (f := fun l => M l (pos M k l)) (mem_univ l)

/-- Some lane's head is the greatest. -/
theorem exists_head (M : ι → Nat → α) (k : Nat) : ∃ l, M l (pos M k l) = head M k := by
  obtain ⟨l, _, h⟩ := exists_mem_eq_sup univ univ_nonempty fun l => M l (pos M k l)
  exact ⟨l, h.symm⟩

/-- How many entries are at least `x`. -/
def num (f : J → α) (x : α) : Nat := #{j | x ≤ f j}

/-- Every lane of `f` by its kept values: the `i`-th is at least `x` exactly if `i < 4` and more than `i` of the lane's
    entries are. -/
def Kept (f : J → α) (lane : J → ι) (M : ι → Nat → α) : Prop :=
  ∀ l i x, ⊥ < x → (x ≤ M l i ↔ i < 4 ∧ i < #{j | lane j = l ∧ x ≤ f j})

variable {f : J → α} {lane : J → ι} {M : ι → Nat → α}

theorem Kept.antitone (h : Kept f lane M) (l : ι) {i i' : Nat} (hi : i ≤ i') : M l i' ≤ M l i := by
  rcases eq_bot_or_bot_lt (M l i') with h0 | h0
  · rw [h0]; exact bot_le
  · have := (h l i' _ h0).1 le_rfl
    exact (h l i _ h0).2 (by omega)

theorem Kept.head_succ_le (h : Kept f lane M) (k : Nat) : head M (k + 1) ≤ head M k := by
  refine Finset.sup_le fun l _ => le_trans (h.antitone l ?_) (le_head M k l)
  rw [pos_succ]; split_ifs <;> omega

theorem le_sum_pos (M : ι → Nat → α) (k : Nat) : k ≤ ∑ l, pos M k l := by
  induction k with
  | zero => exact Nat.zero_le _
  | succ k ih =>
    obtain ⟨l, hl⟩ := exists_head M k
    refine Nat.succ_le_of_lt (lt_of_le_of_lt ih (sum_lt_sum (fun l _ => ?_) ⟨l, mem_univ l, ?_⟩))
    · rw [pos_succ]; split_ifs <;> omega
    · rw [pos_succ, if_pos hl]; omega

/-- What a lane has passed is at least the greatest head. -/
theorem Kept.head_le_passed (h : Kept f lane M) (k : Nat) (l : ι) {i : Nat} (hi : i < pos M k l) : head M k ≤ M l i := by
  induction k with
  | zero => exact absurd hi (Nat.not_lt_zero _)
  | succ k ih =>
    refine le_trans (h.head_succ_le k) ?_
    rw [pos_succ] at hi
    split_ifs at hi with hh
    · rcases Nat.lt_succ_iff_lt_or_eq.1 hi with h1 | h1
      · exact ih h1
      · rw [h1, hh]
    · exact ih hi

/-- What a lane has passed is one of the earlier greatest heads. -/
theorem passed_eq (M : ι → Nat → α) (k : Nat) (l : ι) {i : Nat} (hi : i < pos M k l) : ∃ k' < k, M l i = head M k' := by
  induction k with
  | zero => exact absurd hi (Nat.not_lt_zero _)
  | succ k ih =>
    rw [pos_succ] at hi
    split_ifs at hi with hh
    · rcases Nat.lt_succ_iff_lt_or_eq.1 hi with h1 | h1
      · obtain ⟨k', h2, h3⟩ := ih h1; exact ⟨k', by omega, h3⟩
      · exact ⟨k, by omega, by rw [h1, hh]⟩
    · obtain ⟨k', h2, h3⟩ := ih hi; exact ⟨k', by omega, h3⟩

theorem num_eq_sum (f : J → α) (lane : J → ι) (x : α) : num f x = ∑ l, #{j | lane j = l ∧ x ≤ f j} := by
  unfold num
  rw [card_eq_sum_card_fiberwise (f := lane) (t := univ) (fun _ _ => mem_univ _)]
  refine sum_congr rfl fun l _ => congrArg card ?_
  ext j; simp [and_comm]

/-- After `k` rounds more than `k` entries are at least the greatest head. -/
theorem Kept.lt_num_head (h : Kept f lane M) (k : Nat) (hk : k < Fintype.card J) : k < num f (head M k) := by
  rcases eq_bot_or_bot_lt (head M k) with h0 | h0
  · rw [h0]; simpa [num] using hk
  · rw [num_eq_sum f lane]
    obtain ⟨l, hl⟩ := exists_head M k
    refine lt_of_le_of_lt (le_sum_pos M k) (sum_lt_sum (fun l _ => ?_) ⟨l, mem_univ l, ?_⟩)
    · rcases Nat.eq_zero_or_pos (pos M k l) with h1 | h1
      · omega
      · have := ((h l (pos M k l - 1) _ h0).1 (h.head_le_passed k l (by omega))).2
        omega
    · exact ((h l (pos M k l) _ h0).1 hl.ge).2

/-- If no lane's fourth value reaches the greatest head, at most `k` distinct entries exceed it. -/
theorem Kept.image_head_le (h : Kept f lane M) (k : Nat) (hd : ∀ l, M l 3 < head M k) :
    #(image f {j | head M k < f j}) ≤ k := by
  have hsub : image f {j | head M k < f j} ⊆ image (head M) (range k) := by
    intro y hy
    obtain ⟨j, hj, rfl⟩ := mem_image.1 hy
    have hj : head M k < f j := by simpa using hj
    have h0 : ⊥ < f j := lt_of_le_of_lt bot_le hj
    have hmem : j ∈ ({j' | lane j' = lane j ∧ f j ≤ f j'} : Finset J) := by simp
    have h1 : 0 < #{j' | lane j' = lane j ∧ f j ≤ f j'} := card_pos.2 ⟨j, hmem⟩
    have h4 : #{j' | lane j' = lane j ∧ f j ≤ f j'} < 4 := by
      by_contra h4
      exact absurd (lt_of_le_of_lt ((h (lane j) 3 _ h0).2 (by omega)) (hd _)) (not_lt.2 hj.le)
    generalize hn : #{j' | lane j' = lane j ∧ f j ≤ f j'} = n at h1 h4
    have hle : f j ≤ M (lane j) (n - 1) := (h (lane j) (n - 1) _ h0).2 (by omega)
    have hge : M (lane j) (n - 1) ≤ f j := by
      by_contra hlt
      have hlt := not_le.1 hlt
      have h5 := ((h (lane j) (n - 1) _ (lt_trans h0 hlt)).1 le_rfl).2
      have h6 : #{j' | lane j' = lane j ∧ M (lane j) (n - 1) ≤ f j'} < #{j' | lane j' = lane j ∧ f j ≤ f j'} :=
        card_lt_card ⟨fun a ha => by
            simp only [mem_filter, mem_univ, true_and] at ha ⊢; exact ⟨ha.1, hlt.le.trans ha.2⟩,
          fun hs => absurd (by simpa using hs hmem) (not_le.2 hlt)⟩
      omega
    have heq : M (lane j) (n - 1) = f j := le_antisymm hge hle
    have hp : n - 1 < pos M k (lane j) := by
      by_contra hp
      exact absurd (le_trans (h.antitone _ (not_lt.1 hp)) (le_head M k _)) (not_le.2 (heq ▸ hj))
    obtain ⟨k', hk', he⟩ := passed_eq M k (lane j) hp
    exact mem_image.2 ⟨k', mem_range.2 hk', by rw [← he, heq]⟩
  exact (card_le_card hsub).trans (card_image_le.trans (by simp))

/-! ## The repeated strict maxima -/

/-- The greatest entry, then the greatest of those strictly below it, and so on. -/
def strict (f : J → α) : Nat → α
  | 0 => univ.sup f
  | k + 1 => univ.sup fun j => if f j < strict f k then f j else ⊥

theorem strict_succ_le (f : J → α) (k : Nat) : strict f (k + 1) ≤ strict f k :=
  Finset.sup_le fun j _ => by split_ifs with h; exacts [h.le, bot_le]

/-- At most `k` distinct entries exceed the `k`-th strict maximum. -/
theorem image_strict_le (f : J → α) (k : Nat) : #(image f {j | strict f k < f j}) ≤ k := by
  have hsub : ∀ k j, strict f k < f j → ∃ k' < k, f j = strict f k' := by
    intro k
    induction k with
    | zero => intro j hj; exact absurd (le_sup (f := f) (mem_univ j)) (not_le.2 hj)
    | succ k ih =>
      intro j hj
      rcases lt_trichotomy (f j) (strict f k) with h | h | h
      · have := le_sup (f := fun j => if f j < strict f k then f j else ⊥) (mem_univ j)
        simp only [h, if_true] at this
        exact absurd this (not_le.2 hj)
      · exact ⟨k, by omega, h⟩
      · obtain ⟨k', h1, h2⟩ := ih j h; exact ⟨k', by omega, h2⟩
  have : image f {j | strict f k < f j} ⊆ image (strict f) (range k) := by
    intro y hy
    obtain ⟨j, hj, rfl⟩ := mem_image.1 hy
    obtain ⟨k', h1, h2⟩ := hsub k j (by simpa using hj)
    exact mem_image.2 ⟨k', mem_range.2 h1, h2.symm⟩
  exact (card_le_card this).trans (card_image_le.trans (by simp))

/-- More than `k` entries are at least the `k`-th strict maximum. -/
theorem lt_num_strict [Nonempty J] (f : J → α) (k : Nat) (hk : k < Fintype.card J) : k < num f (strict f k) := by
  have hbot : ∀ k, k < Fintype.card J → strict f k = ⊥ → k < num f (strict f k) := by
    intro k hk h; rw [h]; simpa [num] using hk
  induction k with
  | zero =>
    obtain ⟨j, _, h⟩ := exists_mem_eq_sup univ univ_nonempty f
    exact card_pos.2 ⟨j, by simp [strict, h]⟩
  | succ k ih =>
    rcases eq_bot_or_bot_lt (strict f (k + 1)) with h0 | h0
    · exact hbot _ hk h0
    · obtain ⟨j, _, h⟩ := exists_mem_eq_sup univ univ_nonempty fun j => if f j < strict f k then f j else ⊥
      have hs : strict f (k + 1) = if f j < strict f k then f j else ⊥ := h
      split_ifs at hs with hj
      · refine lt_of_le_of_lt (ih (by omega)) (card_lt_card ⟨fun a ha => ?_, fun hsub => ?_⟩)
        · simp only [mem_filter, mem_univ, true_and] at ha ⊢; exact (strict_succ_le f k).trans ha
        · have : j ∈ ({j | strict f (k + 1) ≤ f j} : Finset J) := by simp [hs]
          have := hsub this
          simp only [mem_filter, mem_univ, true_and] at this
          exact absurd this (not_le.2 hj)
      · exact absurd hs h0.ne'

/-! ## When a threshold selects the `n` greatest -/

/-- `t` separates the `n` greatest entries, all of them distinct. -/
structure Sep (f : J → α) (n : Nat) (t : α) : Prop where
  num_eq : num f t = n
  inj : Set.InjOn f {j | t ≤ f j}

/-- Two thresholds passed by equally many entries are passed by the same entries. -/
theorem same_of_num_eq (f : J → α) {x y : α} (h : num f x = num f y) (j : J) : x ≤ f j ↔ y ≤ f j := by
  wlog hxy : x ≤ y generalizing x y
  · exact (this h.symm (not_le.1 hxy).le).symm
  have hsub : ({j | y ≤ f j} : Finset J) ⊆ ({j | x ≤ f j} : Finset J) := fun a ha => by
    simp only [mem_filter, mem_univ, true_and] at ha ⊢; exact hxy.trans ha
  have := eq_of_subset_of_card_le hsub h.le
  have := Finset.ext_iff.1 this j
  simpa using this.symm

/-- A threshold passed by at least `n` entries and strictly passed by fewer than `n` distinct ones selects the `n`
    greatest. -/
theorem Sep.same {n : Nat} {t : α} (hs : Sep f n t) {x : α} (h1 : n ≤ num f x)
    (h2 : #(image f {j | x < f j}) < n) (j : J) : x ≤ f j ↔ t ≤ f j := by
  rcases le_or_gt t x with h | h
  · have hsub : ({j | x ≤ f j} : Finset J) ⊆ ({j | t ≤ f j} : Finset J) := fun a ha => by
      simp only [mem_filter, mem_univ, true_and] at ha ⊢; exact h.trans ha
    have hc : num f t ≤ num f x := hs.num_eq ▸ h1
    have := Finset.ext_iff.1 (eq_of_subset_of_card_le hsub hc) j
    simpa using this
  · exfalso
    have h3 : #(image f {j | t ≤ f j}) = n := by
      rw [card_image_of_injOn (by simpa using hs.inj)]; exact hs.num_eq
    have h4 : image f {j | t ≤ f j} ⊆ image f {j | x < f j} := image_subset_image fun a ha => by
      simp only [mem_filter, mem_univ, true_and] at ha ⊢; exact h.trans_le ha
    have := card_le_card h4
    omega

end Cert.Sim.Rank

end
-- ==== Proof.Order.lean ====
/- The host's top-k at extended reals: a row's places sorted greatest first, and what it means of a row that its first sixteen
   entries in that order strictly decrease. -/
module

public import proofs.«01_k».proof.Proof.Rank
public import Idealize.ShloMosaic.Lib.Pointwise
public import Idealize.ShloMosaic.Lib.SortFacts

@[expose] public section

set_option maxRecDepth 16384

noncomputable section

namespace Cert.Sim

open Idealize.ShloMosaic Rank Finset

/-- The places of a row, greatest entry first, equal entries in place order. -/
def place {W : Nat} (f : Fin W → EReal) : Fin W → Fin W :=
  sortedFrom fun k k' => FloatOps.cmpfTotal (F := Ideal) (φ := .f32) .gt (f k) (f k') == 1#1

theorem before_iff (x y : EReal) : (FloatOps.cmpfTotal (F := Ideal) (φ := .f32) .gt x y == 1#1) = decide (y < x) := by
  show (BitVec.ofBool (decide (y < x)) == 1#1) = _
  by_cases h : y < x <;> simp [h]

/-- No place is listed twice. -/
theorem place_injective {W : Nat} (f : Fin W → EReal) : Function.Injective (place f) := sortedFrom_injective _

/-- Every place is listed. -/
theorem place_surjective {W : Nat} (f : Fin W → EReal) : Function.Surjective (place f) := sortedFrom_surjective _

/-- The entries do not rise along the list. -/
theorem place_antitone {W : Nat} (f : Fin W → EReal) {i j : Fin W} (h : i ≤ j) : f (place f j) ≤ f (place f i) := by
  rcases h.eq_or_lt with rfl | h
  · exact le_rfl
  have := sortedFrom_noInversion (n := W)
    (fun k k' => FloatOps.cmpfTotal (F := Ideal) (φ := .f32) .gt (f k) (f k') == 1#1)
    (fun k k' => FloatOps.cmpfTotal (F := Ideal) (φ := .f32) .gt (f k) (f k') == 1#1)
    (by
      intro a b
      rw [before_iff, before_iff, decide_eq_true_iff, decide_eq_false_iff_not]
      exact fun h => not_lt.mpr h.le)
    (fun _ _ h => h)
    (by
      intro a b c
      rw [before_iff, before_iff, before_iff, decide_eq_false_iff_not, decide_eq_false_iff_not, decide_eq_false_iff_not,
        not_lt, not_lt, not_lt]
      exact fun h g => h.trans g)
    i j h
  rw [before_iff, decide_eq_false_iff_not, not_lt] at this
  exact this

/-- An index moved to column `k` of its row. -/
theorem along_ix2 {R W : Nat} (a : Fin R) (b k : Fin W) : (ix2 a b : (⟨2, ![R, W]⟩ : Shape).Idx).along 1 k = ix2 a k := by
  funext q; match q with
  | ⟨0, _⟩ => rfl
  | ⟨1, _⟩ => rfl

/-- The top-k's values and places, at an entry. -/
theorem topK_at {R W n : Nat} (s : FVec Ideal ⟨2, ![R, W]⟩ .f32)
    (h : Shape.Slices (s := ⟨2, ![R, W]⟩) (fun _ => 0) ⟨2, ![R, n]⟩) (a : Fin R) (i : Fin n) (i' : Fin W) (hi : i'.val = i.val) :
    (Host.topK (s := ⟨2, ![R, W]⟩) ⟨2, ![R, n]⟩ 1 (FloatOps.cmpfTotal (F := Ideal) (φ := .f32) .gt) s h).1 (ix2 a i)
        = s (ix2 a (place (fun j => s (ix2 a j)) i'))
    ∧ (Host.topK (s := ⟨2, ![R, W]⟩) ⟨2, ![R, n]⟩ 1 (FloatOps.cmpfTotal (F := Ideal) (φ := .f32) .gt) s h).2 (ix2 a i)
        = BitVec.ofNat 32 (place (fun j => s (ix2 a j)) i').val := by
  have hs : ∀ {α : Type} (x : (⟨2, ![R, W]⟩ : Shape).Idx → α), extractStridedSlice ⟨2, ![R, n]⟩ (fun _ => 0) x h (ix2 a i) = x (ix2 a i') := by
    intro α x
    unfold extractStridedSlice
    congr 1
    funext q; apply Fin.ext
    match q with
    | ⟨0, _⟩ => exact Nat.zero_add _
    | ⟨1, _⟩ => exact (Nat.zero_add _).trans hi.symm
  have hp : ∀ (g : Fin W → Fin W → Bool), (g = fun k k' => FloatOps.cmpfTotal (F := Ideal) (φ := .f32) .gt (s (ix2 a k)) (s (ix2 a k')) == 1#1) →
      sortedFrom g i' = place (fun j => s (ix2 a j)) i' := by
    rintro g rfl; rfl
  unfold Host.topK Host.sort2
  dsimp only
  rw [hs, hs, dif_pos (show 1 < 2 by decide)]
  dsimp only
  constructor
  · refine (congrArg s ((along_ix2 a i' _).trans (congrArg (ix2 a) (hp _ ?_))))
    funext k k'
    exact congrArg₂ (fun x y => FloatOps.cmpfTotal (F := Ideal) (φ := .f32) .gt (s x) (s y) == 1#1) (along_ix2 a i' k) (along_ix2 a i' k')
  · rw [dif_pos (show 1 < 2 by decide)]
    refine congrArg (fun k : Fin W => BitVec.ofNat 32 k.val) (hp _ ?_)
    funext k k'
    exact congrArg₂ (fun x y => FloatOps.cmpfTotal (F := Ideal) (φ := .f32) .gt (s x) (s y) == 1#1) (along_ix2 a i' k) (along_ix2 a i' k')

/-- That the first sixteen entries strictly decrease. -/
def Falls (f : Fin 4096 → EReal) : Prop :=
  ∀ i : Fin 15, f (place f ⟨i.val + 1, by omega⟩) < f (place f ⟨i.val, by omega⟩)

/-- The fifteenth greatest entry. -/
def fifteenth (f : Fin 4096 → EReal) : EReal := f (place f ⟨14, by omega⟩)

theorem Falls.lt {f : Fin 4096 → EReal} (h : Falls f) {p q : Fin 4096} (hp : p.val < 15) (hpq : p < q) : f (place f q) < f (place f p) :=
  (place_antitone f (i := ⟨p.val + 1, by omega⟩) (j := q) hpq).trans_lt (h ⟨p.val, hp⟩)

/-- The entries at or above the fifteenth are those of the first fifteen places. -/
theorem Falls.le_iff {f : Fin 4096 → EReal} (h : Falls f) (j : Fin 4096) :
    fifteenth f ≤ f j ↔ ∃ p : Fin 4096, p.val < 15 ∧ place f p = j := by
  constructor
  · intro hj
    obtain ⟨p, rfl⟩ := place_surjective f j
    refine ⟨p, ?_, rfl⟩
    by_contra hp
    exact absurd hj (not_le.mpr (h.lt (p := ⟨14, by omega⟩) (by show 14 < 15; omega) (by rw [Fin.lt_def]; show 14 < p.val; omega)))
  · rintro ⟨p, hp, rfl⟩
    exact place_antitone f (by rw [Fin.le_def]; show p.val ≤ 14; omega)

/-- Such a row has fifteen distinct entries at or above its fifteenth. -/
theorem Falls.sep {f : Fin 4096 → EReal} (h : Falls f) : Sep f 15 (fifteenth f) := by
  refine ⟨?_, ?_⟩
  · have : (univ.filter fun j => fifteenth f ≤ f j) = (univ.filter fun p : Fin 4096 => p.val < 15).image (place f) := by
      ext j
      rw [mem_filter, mem_image, h.le_iff]
      simp only [mem_univ, true_and, mem_filter]
    unfold num
    rw [this, card_image_of_injective _ (place_injective f)]
    rw [Fin.card_filter_val_lt]; rfl
  · intro x hx y hy hxy
    obtain ⟨p, hp, rfl⟩ := (h.le_iff x).mp hx
    obtain ⟨q, hq, rfl⟩ := (h.le_iff y).mp hy
    rcases lt_trichotomy p q with hlt | rfl | hlt
    · exact absurd hxy (h.lt hp hlt).ne'
    · rfl
    · exact absurd hxy (h.lt hq hlt).ne

end Cert.Sim

end
-- ==== Proof.Stages.lean ====
/- The stages of the kernel body as whole-vector functions of the similarity block `s` (512 rows, 4096 columns): the
   four greatest values of every lane, the fourteen rounds that walk down the lanes' heads to a row threshold, the exact
   threshold by repeated masked maxima, and the two flags that decide whether the block is rewritten. Each is proved
   equal to the generated payloads, so that the value proof never opens those. -/
module

public import proofs.«01_k».proof.Proof.Gen.KernelIdeal.Skeleton

@[expose] public section

set_option maxRecDepth 16384

noncomputable section

namespace Cert.Sim

open Idealize.ShloMosaic Cert.KernelIdeal Cert.KernelIdeal.Gen

variable {F : FTy → Type} [FloatOps F]

/-- Four vectors of a value per row and lane: a lane's four greatest entries, or its four heads. -/
structure Four (F : FTy → Type) where
  a1 : FVec F S512x128 .f32
  a2 : FVec F S512x128 .f32
  a3 : FVec F S512x128 .f32
  a4 : FVec F S512x128 .f32

/-- The word the kernel writes for minus infinity, as a value. -/
abbrev negC : F .f32 := Scalar.ofBits .f32 0xFF800000#32

/-- Minus infinity at every row and lane. -/
abbrev negV : FVec F S512x128 .f32 := broadcast S512x128 negC

/-- The `c`-th chunk of 128 columns lies in the block, for each of the 32 chunks. -/
theorem slices_chunk (c : Fin 32) : S512x4096.Slices ![0, c.val * 128] S512x128 :=
  (by decide : ∀ c : Fin 32, S512x4096.Slices ![0, c.val * 128] S512x128) c

/-- The `c`-th chunk of 128 columns of the block. -/
def chunk (s : FVec F S512x4096 .f32) (c : Fin 32) : FVec F S512x128 .f32 :=
  extractStridedSlice S512x128 ![0, c.val * 128] s (slices_chunk c)

/-- One chunk inserted into the lanes' four greatest. -/
def insert4 (v : FVec F S512x128 .f32) (m : Four F) : Four F where
  a1 := maximumf m.a1 v
  a2 := maximumf m.a2 (minimumf m.a1 v)
  a3 := maximumf m.a3 (minimumf m.a2 (minimumf m.a1 v))
  a4 := maximumf m.a4 (minimumf m.a3 (minimumf m.a2 (minimumf m.a1 v)))

/-- The lanes' four greatest among the first `n` chunks. -/
def top4 (s : FVec F S512x4096 .f32) : (n : Nat) → n ≤ 32 → Four F
  | 0, _ => ⟨negV, negV, negV, negV⟩
  | n + 1, h => insert4 (chunk s ⟨n, h⟩) (top4 s n (Nat.le_of_succ_le h))

/-- A row's greatest head, as a column. -/
def rowMax128 (h : FVec F S512x128 .f32) : FVec F S512x1 .f32 :=
  shapeCast S512x1 (multiReduction .maximumf [1] S512 h 0xFF800000#32 reduces_S512x128_S512 (.inl rfl) rfl) shapeCasts_S512_S512x1

/-- The lanes whose head is the row's greatest. -/
def hits (m : Four F) : IVec S512x128 1 :=
  cmpf .oeq m.a1 (broadcastTo S512x128 (rowMax128 m.a1) broadcasts_S512x1_S512x128)

/-- One round: every lane whose head is the row's greatest moves up by one. -/
def popRound (m : Four F) : Four F where
  a1 := select (hits m) m.a2 m.a1
  a2 := select (hits m) m.a3 m.a2
  a3 := select (hits m) m.a4 m.a3
  a4 := select (hits m) negV m.a4

/-- The lanes' heads after `k` rounds. -/
def pops (m : Four F) : Nat → Four F
  | 0 => m
  | k + 1 => popRound (pops m k)

/-- The lanes' four greatest over the whole block. -/
def lanes4 (s : FVec F S512x4096 .f32) : Four F := top4 s 32 (Nat.le_refl 32)

/-- The row thresholds that the fourteen rounds find. -/
def thr (s : FVec F S512x4096 .f32) : FVec F S512x1 .f32 := rowMax128 (pops (lanes4 s) 14).a1

/-- A row's greatest entry, as a column. -/
def rowMax4096 (s : FVec F S512x4096 .f32) : FVec F S512x1 .f32 :=
  shapeCast S512x1 (multiReduction .maximumf [1] S512 s 0xFF800000#32 reduces_S512x4096_S512 (.inl rfl) rfl) shapeCasts_S512_S512x1

/-- The entries below a threshold kept, the others at minus infinity. -/
def below (s : FVec F S512x4096 .f32) (t : FVec F S512x1 .f32) : FVec F S512x4096 .f32 :=
  select (cmpf .olt s (broadcastTo S512x4096 t broadcasts_S512x1_S512x4096)) s (broadcast S512x4096 negC)

/-- The `k`-th distinct maximum of every row, from 0. -/
def exact (s : FVec F S512x4096 .f32) : Nat → FVec F S512x1 .f32
  | 0 => rowMax4096 s
  | k + 1 => rowMax4096 (below s (exact s k))

/-- The entries at or above a threshold kept, the others zero. -/
def keep (s : FVec F S512x4096 .f32) (t : FVec F S512x1 .f32) : FVec F S512x4096 .f32 :=
  select (cmpf .oge s (broadcastTo S512x4096 t broadcasts_S512x1_S512x4096)) s (broadcast S512x4096 (Scalar.ofBits .f32 0x00000000#32))

/-- The square block's diagonal zeroed. -/
def zeroDiag (d : FVec F S512x512 .f32) : FVec F S512x512 .f32 := k0_pay2 k0_pay251 d

/-- Some lane of some row holds four entries at or above its row's threshold. -/
def deep (s : FVec F S512x4096 .f32) : BitVec 1 :=
  Scalar.cmpf .ogt (k0_pay3 (lanes4 s).a4 (thr s)) (Scalar.ofBits .f32 0x00000000#32)

/-- Some row has another count than fifteen of entries at or above its threshold. -/
def offCount (s : FVec F S512x4096 .f32) : BitVec 1 :=
  Scalar.cmpf .ogt (k0_pay4 s (thr s)) (Scalar.ofBits .f32 0x00000000#32)

/-! ## The payloads are these -/

/-- The printed rewrite is the entries at or above the fifteenth distinct maximum. -/
theorem pay7_eq (s : FVec F S512x4096 .f32) : k0_pay7 s (k0_pay6 s) = keep s (exact s 14) := rfl

/-- The printed first store is the entries at or above the threshold column. -/
theorem pay1_eq (s : FVec F S512x4096 .f32) (v329 v330 v331 v333 : FVec F S512x128 .f32) (v335 : FVec F S512x1 .f32) :
    k0_pay1 s (k0_pay252 s v329 v330 v331 v333 v335) (Scalar.ofBits .f32 0x00000000#32) = keep s (k0_pay250 v329 v330 v331 v333 v335) := rfl

end Cert.Sim

end
-- ==== Proof.Program.lean ====
/- The kernel body as a program over the stages of Stages.lean. -/
module

public import proofs.«01_k».proof.Proof.Stages

@[expose] public section

set_option maxRecDepth 65536

noncomputable section

namespace Cert.Sim

open Idealize.ShloMosaic Idealize.ShloMosaic.TcCoe Idealize.SL.Sem Cert.KernelIdeal Cert.KernelIdeal.Gen

variable {F : FTy → Type} [FloatOps F]

/-- The output block whole. -/
abbrev rFull : Rect S512x4096 := Rect.unit (s := S512x4096) ![0, 0] S512x4096.size inb_S512x4096_S512x4096_0_0
/-- The first input window whole. -/
abbrev rRow : Rect S512x256 := Rect.unit (s := S512x256) ![0, 0] S512x256.size inb_S512x256_S512x256_0_0
/-- The second input window whole. -/
abbrev rAll : Rect S4096x256 := Rect.unit (s := S4096x256) ![0, 0] S4096x256.size inb_S4096x256_S4096x256_0_0
/-- The square of the output block that holds the point's part of the diagonal. -/
abbrev rDiag (i : grid0.Coords) : Rect S512x4096 := Rect.unit (s := S512x4096) (k0_off1 i) S512x512.size (k0_off1_inb i)

/-- The count flag as the kernel reads it: the count is looked at only where some lane is deep. -/
def flagP (s : FVec F S512x4096 .f32) : Prop := Scalar.cmpi .ne (Scalar.extui (deep s) : BitVec 32) 0#32 = 1#1

/-- The flag word that decides the rewrite, given whether a lane is deep. -/
def badP (b : BitVec 32) : Prop := Scalar.cmpi .ne (Scalar.extui (Scalar.cmpi .ne b 0#32) : BitVec 32) 0#32 = 1#1

instance (s : FVec F S512x4096 .f32) : Decidable (flagP s) := inferInstanceAs (Decidable (_ = _))
instance (b : BitVec 32) : Decidable (badP b) := inferInstanceAs (Decidable (_ = _))

/-- The body's program: the two windows loaded, the similarity block kept at the threshold and its diagonal zeroed; then,
    if the flags say so, the block stored again at the exact threshold and its diagonal zeroed again. -/
def body (i : grid0.Coords) (arg1 : Memref sig .tc .vmem S512x256 .f32) (arg2 : Memref sig .tc .vmem S4096x256 .f32)
    (arg3 : Memref sig .tc .vmem S512x4096 .f32) : Prog (TpuEff nD τ sig (Elt F) Λ₀ .tc) PUnit := do
  let v0 : Vec F S512x256 .f32 ← Prog.lift (.load arg1 rRow.toLoadRect (View.loadsAt_vmem h_S512x256))
  let v2 : Vec F S4096x256 .f32 ← Prog.lift (.load arg2 rAll.toLoadRect (View.loadsAt_vmem h_S4096x256))
  let _ : Vec F S512x4096 .f32 ← Prog.lift (.load arg3 rFull.toLoadRect (View.loadsAt_vmem h_S512x4096))
  Prog.lift (.store arg3 rFull (keep (k0_pay8 v0 v2) (thr (k0_pay8 v0 v2))) Finset.univ (View.stores_vmem_bits_univ h_S512x4096 rfl) (.inl rfl))
  let d : Vec F S512x512 .f32 ← Prog.lift (.load arg3 (rDiag i).toLoadRect (View.loadsAt_vmem h_S512x512))
  let _ : Vec F S512x512 .f32 ← Prog.lift (.load arg3 (rDiag i).toLoadRect (View.loadsAt_vmem h_S512x512))
  Prog.lift (.store arg3 (rDiag i) (zeroDiag d) Finset.univ (View.stores_vmem_bits_univ h_S512x512 rfl) (.inl rfl))
  let b : BitVec 32 ← if flagP (k0_pay8 v0 v2) then pure (Scalar.extui (offCount (k0_pay8 v0 v2))) else pure 0#32
  if badP b then do
    let _ : Vec F S512x4096 .f32 ← Prog.lift (.load arg3 rFull.toLoadRect (View.loadsAt_vmem h_S512x4096))
    Prog.lift (.store arg3 rFull (keep (k0_pay8 v0 v2) (exact (k0_pay8 v0 v2) 14)) Finset.univ (View.stores_vmem_bits_univ h_S512x4096 rfl) (.inl rfl))
    let e : Vec F S512x512 .f32 ← Prog.lift (.load arg3 (rDiag i).toLoadRect (View.loadsAt_vmem h_S512x512))
    let _ : Vec F S512x512 .f32 ← Prog.lift (.load arg3 (rDiag i).toLoadRect (View.loadsAt_vmem h_S512x512))
    Prog.lift (.store arg3 (rDiag i) (zeroDiag e) Finset.univ (View.stores_vmem_bits_univ h_S512x512 rfl) (.inl rfl))
    pure ⟨⟩
  else do
    pure ⟨⟩
  pure ⟨⟩

set_option maxHeartbeats 4000000 in
/-- The printed kernel is that program. -/
theorem kernel_eq_body (i : grid0.Coords) (arg1 : Memref sig .tc .vmem S512x256 .f32) (harg1 : arg1.IsWhole) (arg2 : Memref sig .tc .vmem S4096x256 .f32)
    (harg2 : arg2.IsWhole) (arg3 : Memref sig .tc .vmem S512x4096 .f32) (harg3 : arg3.IsWhole) :
    cc0__sim_kernel_skel (F := F) i arg1 harg1 arg2 harg2 arg3 harg3 = body i arg1 arg2 arg3 := rfl

end Cert.Sim

end
-- ==== Proof.Run.lean ====
/- The run of the kernel at any float values: the body's triple with what it leaves in the output window's buffer, the
   pipeline's proof data, the body obligation, and the launch. Both frames are read off `run_main`. -/
module

public import proofs.«01_k».proof.Proof.Program
public import proofs.«01_k».proof.Proof.Gen.KernelIdeal.Frame
public import Idealize.ShloMosaic.Lib.Claim

@[expose] public section

set_option maxRecDepth 16384

noncomputable section

namespace Cert.Sim

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The similarity block of a point, from the two input windows' blocks. -/
def simBlk (x0 : Vec F S512x256 .f32) (x1 : Vec F S4096x256 .f32) : FVec F S512x4096 .f32 := k0_pay8 (View.ld x0 rRow) (View.ld x1 rAll)

/-- What the buffer holds after a block `w` is stored whole and its diagonal square is zeroed on the diagonal. -/
def stored (i : grid0.Coords) (w : Vec F S512x4096 .f32) : Vec F S512x4096 .f32 :=
  View.canon (Val := Elt F) (e := .f32) [⟨rDiag i, zeroDiag (View.ld (Val := Elt F) (e' := .f32) w (rDiag i))⟩, ⟨rFull, w⟩]

/-- Under a store of the whole block, nothing older is seen. -/
theorem canon_full (w : Vec F S512x4096 .f32) (L : List (View.Piece (Elt F) S512x4096 .f32)) :
    View.canon (⟨rFull, w⟩ :: L) = w := by
  funext y
  have hy : (rFull.emb y : S512x4096.Idx) = y := by
    funext a; apply Fin.ext
    show (rFull.idx y a).val = (y a).val
    fin_cases a <;> exact (Nat.zero_add _).trans (Nat.one_mul _)
  have := View.canon_cons_emb (Val := Elt F) (e := .f32) rFull w L y
  rw [hy] at this
  exact this

/-- The block is rewritten at the exact threshold: some lane is deep and some row's count is not fifteen. -/
def rewrites (s : FVec F S512x4096 .f32) : Prop := flagP s ∧ badP (Scalar.extui (offCount s))

open Classical in
/-- What the body leaves in the output window's buffer. -/
def outBlk (i : grid0.Coords) (x0 : Vec F S512x256 .f32) (x1 : Vec F S4096x256 .f32) : Vec F S512x4096 .f32 :=
  if rewrites (simBlk x0 x1) then stored i (keep (simBlk x0 x1) (exact (simBlk x0 x1) 14)) else stored i (keep (simBlk x0 x1) (thr (simBlk x0 x1)))

/-- The buffer read back after the two stores. -/
theorem read_stored (arg3 : Memref sig .tc .vmem S512x4096 .f32) (i : grid0.Coords) (w : Vec F S512x4096 .f32) (L : List (View.Piece (Elt F) S512x4096 .f32)) :
    arg3.view.read (Elt F) (arg3.view.writes (Elt F) arg3.view.junk
      (⟨rDiag i, zeroDiag (arg3.view.readAt (Elt F) (rDiag i).toLoadRect (arg3.view.writes (Elt F) arg3.view.junk (⟨rFull, w⟩ :: L)))⟩ :: ⟨rFull, w⟩ :: L))
      = stored i w := by
  rw [View.read_writes_junk_eq_canon]
  have h : arg3.view.readAt (Elt F) (rDiag i).toLoadRect (arg3.view.writes (Elt F) arg3.view.junk (⟨rFull, w⟩ :: L)) = View.ld (Val := Elt F) (e' := .f32) w (rDiag i) := by
    rw [View.readAt_writes_junk_eq_canon, canon_full]
  rw [h]; unfold stored
  rw [View.canon_cons, canon_full, View.canon_cons, canon_full]

/-- No count is looked at where no lane is deep, so nothing is rewritten there. -/
theorem not_badP_zero : ¬ badP 0#32 := by decide

set_option maxHeartbeats 1000000 in
/-- The body on whole staging buffers, the inputs' at contents `x0` and `x1` and the output's at anything, leaves the inputs'
    as they were and the output's at `outBlk` of them, whichever way its two branches go. -/
theorem sound_kernel (c : Dev nD) (E : Set ℕ) (i : grid0.Coords) (arg1 : Memref sig .tc .vmem S512x256 .f32) (harg1 : arg1.IsWhole) (arg2 : Memref sig .tc .vmem S4096x256 .f32) (harg2 : arg2.IsWhole) (arg3 : Memref sig .tc .vmem S512x4096 .f32) (harg3 : arg3.IsWhole)
    (x0 : Vec F S512x256 .f32) (x1 : Vec F S4096x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk i x0 x1)) -∗ K ⟨⟩))
      ⊢ wp frame (wpE (defs₀ (F := F)) Variants.none c none) E (cc0__sim_kernel i arg1 harg1 arg2 harg2 arg3 harg3) K := by
  simp only [cc0__sim_kernel_eq_skeleton, kernel_eq_body]; unfold body
  unfold owns
  iintro ⟨⟨%f0, %hf0, H0⟩, ⟨%f1, %hf1, H1⟩, ⟨%d2, %f2, -, H2⟩, Hk⟩
  subst hf0 hf1
  by_cases hf : flagP (k0_pay8 (arg1.view.readAt (Elt F) rRow f0) (arg2.view.readAt (Elt F) rAll f1))
  · by_cases hb : badP (Scalar.extui (offCount (k0_pay8 (arg1.view.readAt (Elt F) rRow f0) (arg2.view.readAt (Elt F) rAll f1))))
    · sl_exec
      sl_step
      iapply Hk
      isplitl [H0]
      · iexists f0; isplitr; · ipureintro; rfl
        iexact H0
      isplitl [H1]
      · iexists f1; isplitr; · ipureintro; rfl
        iexact H1
      iexists _; isplitr
      swap; · iexact H2
      ipureintro
      exact (read_stored arg3 i _ _).trans (if_pos (show rewrites _ from ⟨hf, hb⟩)).symm
    · sl_exec
      sl_step
      iapply Hk
      isplitl [H0]
      · iexists f0; isplitr; · ipureintro; rfl
        iexact H0
      isplitl [H1]
      · iexists f1; isplitr; · ipureintro; rfl
        iexact H1
      iexists _; isplitr
      swap; · iexact H2
      ipureintro
      exact (read_stored arg3 i _ _).trans (if_neg (show ¬ rewrites _ from fun h => hb h.2)).symm
  · have hb := not_badP_zero
    sl_exec
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    exact (read_stored arg3 i _ _).trans (if_neg (show ¬ rewrites _ from fun h => hf h.1)).symm

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (grid0.coords t) (iblk m c 0 t) (iblk m c 1 t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk (grid0.coords t) (iblk m c 0 t) (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The frame at any float values: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Sim

end
-- ==== Proof.Select.lean ====
/- What the selection stages compute at extended reals. Each stage is read at a row and met with `Rank`'s mathematics; the
   result: where fifteen distinct entries of every row lie above the rest, the block that the body stores keeps exactly those. -/
module

public import proofs.«01_k».proof.Proof.Run
public import proofs.«01_k».proof.Proof.Rank
public import Idealize.ShloMosaic.Lib.Pointwise
public import Idealize.ShloMosaic.Lib.IndicatorCount

@[expose] public section

set_option maxRecDepth 16384

noncomputable section

namespace Cert.Sim

open Idealize.ShloMosaic Cert.KernelIdeal Cert.KernelIdeal.Gen Rank Finset

/-- The word for minus infinity denotes the least extended real. -/
theorem ofBits_neg : Ideal.ofBits .f32 0xFF800000#32 = (⊥ : EReal) := by simp [Ideal.ofBits, Ideal.ieee]

/-- A fold of `max` from the least element is the supremum. -/
theorem fold_max {ι : Type} (f : ι → EReal) (t : Finset ι) : t.fold max ⊥ f = t.sup f := rfl

/-- A row of the similarity block. -/
def row (s : FVec Ideal S512x4096 .f32) (r : Fin 512) : Fin 4096 → EReal := fun j => s (ix2 r j)

/-- The lane of a column. -/
def lane (j : Fin 4096) : Fin 128 := ⟨j.val % 128, Nat.mod_lt _ (by decide)⟩

/-- A lane's entries in a row, chunk by chunk. -/
def entry (s : FVec Ideal S512x4096 .f32) (r : Fin 512) (l : Fin 128) (c : Nat) : EReal :=
  if h : c < 32 then s (ix2 r ⟨c * 128 + l.val, by omega⟩) else ⊥

/-- Four vectors at a row and lane. -/
def quadAt (m : Four Ideal) (r : Fin 512) (l : Fin 128) : Quad EReal :=
  (m.a1 (ix2 r l), m.a2 (ix2 r l), m.a3 (ix2 r l), m.a4 (ix2 r l))

/-- A lane's kept values after the whole block. -/
def kept (s : FVec Ideal S512x4096 .f32) (r : Fin 512) (l : Fin 128) : Nat → EReal := nth (fold4 (entry s r l) 32)

/-- The running four greatest of a lane are `fold4`'s. -/
theorem top4_at (s : FVec Ideal S512x4096 .f32) (r : Fin 512) (l : Fin 128) (n : Nat) (h : n ≤ 32) :
    quadAt (top4 s n h) r l = fold4 (entry s r l) n := by
  induction n with
  | zero => simp only [quadAt, top4, fold4, negV, negC, broadcast, Scalar.ofBits, Ideal.ofBits_def, ofBits_neg]
  | succ n ih =>
    have hn : n < 32 := h
    have hc : chunk s ⟨n, hn⟩ (ix2 r l) = entry s r l n := by
      pointwise [chunk, entry]
      rw [dif_pos hn]
    have ih := ih (Nat.le_of_succ_le h)
    simp only [fold4, ← ih, ← hc]
    rfl

/-- So a lane's kept values say how many of its entries are at least anything. -/
theorem kept_spec (s : FVec Ideal S512x4096 .f32) (r : Fin 512) : Kept (row s r) lane (kept s r) := by
  intro l i x hx
  unfold kept
  rw [le_nth _ x hx]
  have : cnt (entry s r l) 32 x = #{j | lane j = l ∧ x ≤ row s r j} := by
    unfold cnt
    refine card_bij' (fun c hc => (⟨c * 128 + l.val, by have := mem_range.1 (mem_filter.1 hc).1; omega⟩ : Fin 4096)) (fun j _ => j.val / 128) ?_ ?_ ?_ ?_
    · intro c hc
      obtain ⟨h1, h2⟩ := mem_filter.1 hc
      have h1 := mem_range.1 h1
      simp only [mem_filter, mem_univ, true_and]
      refine ⟨Fin.ext (show (c * 128 + l.val) % 128 = l.val by omega), ?_⟩
      rw [entry, dif_pos h1] at h2; exact h2
    · intro j hj
      obtain ⟨h1, h2⟩ : lane j = l ∧ x ≤ row s r j := by simpa using hj
      have h3 : j.val % 128 = l.val := congrArg Fin.val h1
      have h4 : j.val / 128 < 32 := by omega
      refine mem_filter.2 ⟨mem_range.2 h4, ?_⟩
      rw [entry, dif_pos h4]
      refine le_of_le_of_eq h2 (congrArg (fun a => s (ix2 r a)) (Fin.ext ?_))
      show j.val = j.val / 128 * 128 + l.val
      omega
    · intro c hc
      show (c * 128 + l.val) / 128 = c
      omega
    · intro j hj
      obtain ⟨h1, h2⟩ : lane j = l ∧ x ≤ row s r j := by simpa using hj
      have h3 : j.val % 128 = l.val := congrArg Fin.val h1
      refine Fin.ext ?_
      show j.val / 128 * 128 + l.val = j.val
      omega
  rw [this]

/-- A row's greatest of 128 is the supremum. -/
theorem rowMax128_at (h : FVec Ideal S512x128 .f32) (r : Fin 512) : rowMax128 h (ix2 r 0) = univ.sup fun l => h (ix2 r l) := by
  pointwise [rowMax128]
  rw [ofBits_neg, fold_max]

/-- A row's greatest of 4096 is the supremum. -/
theorem rowMax4096_at (h : FVec Ideal S512x4096 .f32) (r : Fin 512) : rowMax4096 h (ix2 r 0) = univ.sup fun l => h (ix2 r l) := by
  pointwise [rowMax4096]
  rw [ofBits_neg, fold_max]

/-- A round at a row and lane: a lane whose head is the row's greatest moves up. -/
theorem popRound_at (m : Four Ideal) (r : Fin 512) (l : Fin 128) :
    quadAt (popRound m) r l = if m.a1 (ix2 r l) = rowMax128 m.a1 (ix2 r 0)
      then (m.a2 (ix2 r l), m.a3 (ix2 r l), m.a4 (ix2 r l), ⊥) else quadAt m r l := by
  pointwise [popRound, hits, quadAt, negV, negC]
  rw [ofBits_neg]
  split_ifs <;> rfl

/-- After `k` rounds a lane's heads are its kept values from its position on. -/
theorem pops_at (s : FVec Ideal S512x4096 .f32) (r : Fin 512) (k : Nat) (l : Fin 128) :
    quadAt (pops (lanes4 s) k) r l = (kept s r l (pos (kept s r) k l), kept s r l (pos (kept s r) k l + 1),
      kept s r l (pos (kept s r) k l + 2), kept s r l (pos (kept s r) k l + 3)) := by
  induction k generalizing l with
  | zero =>
    rw [show pops (lanes4 s) 0 = top4 s 32 (Nat.le_refl 32) from rfl, top4_at]
    rfl
  | succ k ih =>
    have h1 : ∀ l, (pops (lanes4 s) k).a1 (ix2 r l) = kept s r l (pos (kept s r) k l) := fun l => congrArg Prod.fst (ih l)
    have h2 := congrArg (fun q => q.2.1) (ih l)
    have h3 := congrArg (fun q => q.2.2.1) (ih l)
    have h4 := congrArg (fun q => q.2.2.2) (ih l)
    have hm : rowMax128 (pops (lanes4 s) k).a1 (ix2 r 0) = head (kept s r) k := by
      rw [rowMax128_at]; exact congrArg _ (funext h1)
    simp only [quadAt] at h2 h3 h4
    rw [show pops (lanes4 s) (k + 1) = popRound (pops (lanes4 s) k) from rfl, popRound_at, h1, hm, h2, h3, h4, ih, pos_succ]
    split_ifs
    · rfl
    · rfl

/-- So the greatest head of a row after `k` rounds is `head`. -/
theorem pops_max (s : FVec Ideal S512x4096 .f32) (r : Fin 512) (k : Nat) :
    rowMax128 (pops (lanes4 s) k).a1 (ix2 r 0) = head (kept s r) k := by
  rw [rowMax128_at]
  exact congrArg _ (funext fun l => congrArg Prod.fst (pops_at s r k l))

/-- The threshold column is the greatest head after fourteen rounds. -/
theorem thr_at (s : FVec Ideal S512x4096 .f32) (r : Fin 512) : thr s (ix2 r 0) = head (kept s r) 14 := pops_max s r 14

/-- The exact threshold column is the strict maximum. -/
theorem exact_at (s : FVec Ideal S512x4096 .f32) (r : Fin 512) (k : Nat) : exact s k (ix2 r 0) = strict (row s r) k := by
  induction k with
  | zero => exact rowMax4096_at s r
  | succ k ih =>
    rw [show exact s (k + 1) = rowMax4096 (below s (exact s k)) from rfl, rowMax4096_at, strict]
    refine congrArg _ (funext fun j => ?_)
    pointwise [below]
    rw [ofBits_neg, ih]
    rfl

/-- What `keep` leaves at a row and column. -/
theorem keep_at (s : FVec Ideal S512x4096 .f32) (t : FVec Ideal S512x1 .f32) (r : Fin 512) (j : Fin 4096) :
    keep s t (ix2 r j) = if t (ix2 r 0) ≤ row s r j then row s r j else 0 := by
  pointwise [keep, row]

/-! ## The flags -/

/-- A supremum of zeros and ones exceeds zero exactly if some one is there. -/
theorem sup_flag {ι : Type} [Fintype ι] (p : ι → Prop) [DecidablePred p] :
    (0 : EReal) < univ.sup (fun i => if p i then (1 : EReal) else 0) ↔ ∃ i, p i := by
  rw [Finset.lt_sup_iff]
  constructor
  · rintro ⟨i, _, h⟩
    by_contra hn
    rw [if_neg (fun hp => hn ⟨i, hp⟩)] at h
    exact absurd h (lt_irrefl _)
  · rintro ⟨i, hi⟩
    exact ⟨i, mem_univ _, by rw [if_pos hi]; exact zero_lt_one⟩

/-- The fourth of the lanes' values is the kept one. -/
theorem lanes4_a4 (s : FVec Ideal S512x4096 .f32) (r : Fin 512) (l : Fin 128) : (lanes4 s).a4 (ix2 r l) = kept s r l 3 :=
  congrArg (fun q => q.2.2.2) (top4_at s r l 32 (Nat.le_refl 32))

/-- The first flag's value: whether some lane's word reaches its row's threshold. -/
theorem deep_at (a : FVec Ideal S512x128 .f32) (t : FVec Ideal S512x1 .f32) :
    (0 : EReal) < k0_pay3 a t ↔ ∃ x : Fin 512 × Fin 128, t (ix2 x.1 0) ≤ a (ix2 x.1 x.2) := by
  pointwise [k0_pay3]
  rw [ofBits_neg]
  exact sup_flag fun x : Fin 512 × Fin 128 => t (ix2 x.1 0) ≤ a (ix2 x.1 x.2)

theorem ofBool_one (b : Bool) : BitVec.ofBool b = 1#1 ↔ b = true := by cases b <;> decide

/-- A count of at most 4096, as a 32-bit word, is fifteen exactly if it is. -/
theorem word_ne {n : Nat} (h : n ≤ 4096) : IntOp.cmpi .ne (BitVec.ofNat 32 n) 15#32 = 1#1 ↔ n ≠ 15 := by
  have : BitVec.ofNat 32 n = 15#32 ↔ n = 15 := by
    rw [← BitVec.toNat_inj, BitVec.toNat_ofNat, BitVec.toNat_ofNat]; omega
  by_cases hn : n = 15
  · subst hn; decide
  · have h' : BitVec.ofNat 32 n ≠ 15#32 := mt this.1 hn
    simp [IntOp.cmpi, ofBool_one, h', hn]

/-- A choice between one and zero by a word. -/
theorem select_word (c : BitVec 1) (a b : EReal) : Scalar.select c a b = if c = 1#1 then a else b := rfl

/-- The second flag's value: whether some row has another count than fifteen. -/
theorem count_at (s : FVec Ideal S512x4096 .f32) (t : FVec Ideal S512x1 .f32) :
    (0 : EReal) < k0_pay4 s t ↔ ∃ x : Fin 512 × Fin 1, num (row s x.1) (t (ix2 x.1 0)) ≠ 15 := by
  have hp : ∀ x : Fin 512 × Fin 1, IntOp.cmpi .ne (univ.fold IntOp.addi (0#32)
      fun j : Fin 4096 => BitVec.setWidth 32 (BitVec.ofBool (decide (t (ix2 x.1 0) ≤ s (ix2 x.1 j))))) 15#32 = 1#1
      ↔ num (row s x.1) (t (ix2 x.1 0)) ≠ 15 := by
    intro x
    rw [IndicatorCount.fold_addi_setWidth_eq_card, word_ne ((card_le_univ _).trans_eq (Fintype.card_fin 4096))]
    refine not_congr (Eq.congr_left (congrArg card (Finset.ext fun j => ?_)))
    rw [mem_filter, mem_filter, ofBool_one, decide_eq_true_iff]
    rfl
  pointwise [k0_pay4]
  rw [ofBits_neg]
  simp only [select_word, hp]
  exact sup_flag fun x : Fin 512 × Fin 1 => num (row s x.1) (t (ix2 x.1 0)) ≠ 15

/-- A comparison word is one exactly if the comparison holds. -/
theorem gt_zero (x : EReal) : Scalar.cmpf (F := Ideal) (φ := .f32) .ogt x (Scalar.ofBits .f32 0x00000000#32) = 1#1 ↔ 0 < x := by
  show BitVec.ofBool (decide (Ideal.ofBits .f32 0x00000000#32 < x)) = 1#1 ↔ 0 < x
  rw [Ideal.ofBits_zero_f32, ofBool_one, decide_eq_true_iff]

/-- If the first flag is down, every lane's fourth value is below its row's threshold. -/
theorem not_deep (s : FVec Ideal S512x4096 .f32) (h : ¬ deep s = 1#1) (r : Fin 512) (l : Fin 128) :
    kept s r l 3 < head (kept s r) 14 := by
  rw [deep, gt_zero, deep_at] at h
  have := fun hle => h ⟨(r, l), hle⟩
  rw [lanes4_a4, thr_at] at this
  exact not_le.1 this

/-- If the second flag is down, fifteen entries of every row reach its threshold. -/
theorem not_offCount (s : FVec Ideal S512x4096 .f32) (h : ¬ offCount s = 1#1) (r : Fin 512) :
    num (row s r) (head (kept s r) 14) = 15 := by
  rw [offCount, gt_zero, count_at] at h
  have := fun hne => h ⟨(r, 0), hne⟩
  rw [thr_at] at this
  exact not_not.1 this

/-! ## The block kept -/

theorem word_ne_zero : ∀ b : BitVec 1, Scalar.cmpi .ne (Scalar.extui b : BitVec 32) 0#32 = 1#1 ↔ b = 1#1 := by decide

theorem word_ne_zero_twice : ∀ b : BitVec 1,
    Scalar.cmpi .ne (Scalar.extui (Scalar.cmpi .ne (Scalar.extui b : BitVec 32) 0#32) : BitVec 32) 0#32 = 1#1 ↔ b = 1#1 := by decide

/-- The block is rewritten exactly if both flags are up. -/
theorem rewrites_iff (s : FVec Ideal S512x4096 .f32) : rewrites s ↔ deep s = 1#1 ∧ offCount s = 1#1 :=
  and_congr (word_ne_zero _) (word_ne_zero_twice _)

open Classical in
/-- The block the body stores before it zeroes the diagonal square. -/
def keptBlk (s : FVec Ideal S512x4096 .f32) : FVec Ideal S512x4096 .f32 :=
  if rewrites s then keep s (exact s 14) else keep s (thr s)

/-- Where fifteen distinct entries of a row lie above the rest, the stored block keeps exactly those. -/
theorem keptBlk_at (s : FVec Ideal S512x4096 .f32) (r : Fin 512) {t : EReal} (h : Sep (row s r) 15 t) (j : Fin 4096) :
    keptBlk s (ix2 r j) = if t ≤ row s r j then row s r j else 0 := by
  have hc : ∀ k, k < 15 → k < Fintype.card (Fin 4096) := fun k hk => by rw [Fintype.card_fin]; omega
  have key : ∀ x, (x ≤ row s r j ↔ t ≤ row s r j) →
      (if x ≤ row s r j then row s r j else 0) = if t ≤ row s r j then row s r j else 0 := fun x hx => by
    by_cases h : x ≤ row s r j
    · rw [if_pos h, if_pos (hx.1 h)]
    · rw [if_neg h, if_neg (mt hx.2 h)]
  unfold keptBlk
  by_cases hr : rewrites s
  · rw [if_pos hr, keep_at, exact_at]
    exact key _ (h.same (lt_num_strict (row s r) 14 (hc 14 (by omega))) (Nat.lt_succ_of_le (image_strict_le (row s r) 14)) j)
  · rw [if_neg hr, keep_at, thr_at]
    refine key _ ?_
    rw [rewrites_iff, not_and_or] at hr
    rcases hr with hr | hr
    · exact h.same ((kept_spec s r).lt_num_head 14 (hc 14 (by omega)))
        (Nat.lt_succ_of_le ((kept_spec s r).image_head_le 14 (not_deep s hr r))) j
    · exact same_of_num_eq (row s r) ((not_offCount s hr r).trans h.num_eq.symm) j

end Cert.Sim

end
-- ==== Proof.Result.lean ====
/- The result array the kernel's grid leaves at extended reals, entry by entry: the blocks a grid point reads are rows of the
   normalised array, and what it writes back is the kept part of its similarity rows with the diagonal put to zero. -/
module

public import proofs.«01_k».proof.Proof.Select

@[expose] public section

set_option maxRecDepth 16384

noncomputable section

namespace Cert.Sim

open Idealize.ShloMosaic Cert.KernelIdeal Cert.KernelIdeal.Gen Rank Finset

/-- The similarity of rows `a` and `b` of an array. -/
def gram (z : FVec Ideal S4096x256 .f32) (a : Fin 4096) (b : Fin 4096) : EReal := ∑ k : Fin 256, z (ix2 a k) * z (ix2 b k)

/-- The point's block of rows against the whole array, at an entry. -/
theorem simBlk_at (x0 : Vec Ideal S512x256 .f32) (x1 : Vec Ideal S4096x256 .f32) (r : Fin 512) (j : Fin 4096) :
    simBlk x0 x1 (ix2 r j) = ∑ k : Fin 256, (x0 (ix2 r k) : EReal) * x1 (ix2 j k) := by
  have h0 : View.ld (Val := Elt Ideal) (e' := .f32) x0 rRow = x0 := View.ld_unit_zero (by funext a; fin_cases a <;> rfl) _ _
  have h1 : View.ld (Val := Elt Ideal) (e' := .f32) x1 rAll = x1 := View.ld_unit_zero (by funext a; fin_cases a <;> rfl) _ _
  unfold simBlk
  rw [h0, h1]
  pointwise [k0_pay8]
  try simp

/-- The body's output is its rewritten or plain kept block, stored and with its diagonal zeroed. -/
theorem outBlk_eq (i : grid0.Coords) (x0 : Vec Ideal S512x256 .f32) (x1 : Vec Ideal S4096x256 .f32) :
    outBlk i x0 x1 = stored i (keptBlk (simBlk x0 x1)) := by
  unfold outBlk keptBlk
  split_ifs <;> rfl

/-- The diagonal's square starts at the point's own row number. -/
theorem off_diag (t : Fin cfg0.N) : k0_off1 (grid0.coords t) = ![0, 512 * t.val] := by
  rcases fin_N0 t with rfl | rfl | rfl | rfl | rfl | rfl | rfl | rfl <;> decide

/-- The square's zeroing, at an entry. -/
theorem zeroDiag_at (d : FVec Ideal S512x512 .f32) (r k : Fin 512) :
    zeroDiag d (ix2 r k) = if r = k then (0 : EReal) else d (ix2 r k) := by
  unfold zeroDiag
  pointwise [k0_pay2, k0_pay251]
  have hb : (BitVec.ofNat 32 r.val = BitVec.ofNat 32 k.val) ↔ r = k := by
    constructor
    · intro h
      have := congrArg BitVec.toNat h
      simp only [BitVec.toNat_ofNat] at this
      apply Fin.ext; omega
    · rintro rfl; rfl
  by_cases h : r = k
  · simp [Scalar.select, IntOp.cmpi, h]
  · have hn : (BitVec.ofNat 32 r.val == BitVec.ofNat 32 k.val) = false := beq_eq_false_iff_ne.mpr fun e => h (hb.mp e)
    simp [Scalar.select, IntOp.cmpi, hn, h]

/-- The stored block at an entry: zero on the array's diagonal, the block elsewhere. -/
theorem stored_at (t : Fin cfg0.N) (w : Vec Ideal S512x4096 .f32) (r : Fin 512) (j : Fin 4096) :
    stored (grid0.coords t) w (ix2 r j) = if j.val = 512 * t.val + r.val then (0 : EReal) else w (ix2 r j) := by
  have ht : t.val < 8 := t.isLt
  unfold stored
  by_cases hj : 512 * t.val ≤ j.val ∧ j.val < 512 * t.val + 512
  · have hk : j.val - 512 * t.val < 512 := by omega
    have he : (ix2 r j : S512x4096.Idx) = (rDiag (grid0.coords t)).emb (ix2 r (⟨j.val - 512 * t.val, hk⟩ : Fin 512)) := by
      funext a
      apply Fin.ext
      show _ = ((rDiag (grid0.coords t)).idx _ a).val
      match a with
      | ⟨0, _⟩ =>
        show r.val = k0_off1 (grid0.coords t) 0 + 1 * r.val
        rw [off_diag]; simp
      | ⟨1, _⟩ =>
        show j.val = k0_off1 (grid0.coords t) 1 + 1 * (j.val - 512 * t.val)
        rw [off_diag]; simp; omega
    have hw : View.ld (Val := Elt Ideal) (e' := .f32) w (rDiag (grid0.coords t)) (ix2 r (⟨j.val - 512 * t.val, hk⟩ : Fin 512)) = w (ix2 r j) := by
      rw [he]; rfl
    conv_lhs => rw [he]
    rw [View.canon_cons_emb, zeroDiag_at, hw]
    apply ite_congr ?_ (fun _ => rfl) (fun _ => rfl)
    rw [Fin.ext_iff]
    show (r.val = j.val - 512 * t.val) = _
    apply propext; omega
  · rw [View.canon_cons_of_not_mem, canon_full, if_neg (by omega)]
    intro hm
    have hm : ix2 r j ∈ (rDiag (grid0.coords t)).set := hm
    unfold rDiag at hm
    rw [Rect.mem_set_unit] at hm
    have hm := hm 1
    apply hj
    have h1 : (k0_off1 (grid0.coords t)) 1 = 512 * t.val := by rw [off_diag]; rfl
    rw [h1] at hm
    exact hm

variable (m : (ℓ : Loc nD τ sig) → Buf (Elt Ideal) ℓ) (c : Dev nD)

/-- The normalised array, as the kernel's program computes it before the grid. -/
def zK : FVec Ideal S4096x256 .f32 := V m c main_v8

theorem index0 (t : Fin cfg0.N) : win0_0.index t 0 = t.val ∧ win0_0.index t 1 = 0 := by
  rcases fin_N0 t with rfl | rfl | rfl | rfl | rfl | rfl | rfl | rfl <;> decide

theorem index1 (t : Fin cfg0.N) : win0_1.index t 0 = 0 ∧ win0_1.index t 1 = 0 := by
  rcases fin_N0 t with rfl | rfl | rfl | rfl | rfl | rfl | rfl | rfl <;> decide

theorem index2 (t : Fin cfg0.N) : win0_2.index t 0 = t.val ∧ win0_2.index t 1 = 0 := by
  rcases fin_N0 t with rfl | rfl | rfl | rfl | rfl | rfl | rfl | rfl <;> decide

/-- The array row that a point's block row is. -/
def rowOf (t : Fin cfg0.N) (r : Fin 512) : Fin 4096 := ⟨512 * t.val + r.val, by have : t.val < 8 := t.isLt; omega⟩

/-- The point's block of rows, read. -/
theorem iblk0_at (t : Fin cfg0.N) (r : Fin 512) (k : Fin 256) :
    (iblk m c 0 t : Vec Ideal S512x256 .f32) (ix2 r k) = zK m c (ix2 (rowOf t r) k) := by
  unfold iblk zK
  rw [View.read_apply]
  show V m c main_v8 _ = V m c main_v8 _
  congr 1
  funext a
  apply Fin.ext
  match a with
  | ⟨0, _⟩ =>
    show win0_0.index t 0 * 512 + 1 * r.val = 512 * t.val + r.val
    rw [(index0 t).1]; omega
  | ⟨1, _⟩ =>
    show win0_0.index t 1 * 256 + 1 * k.val = k.val
    rw [(index0 t).2]; omega

/-- The whole array, read. -/
theorem iblk1_at (t : Fin cfg0.N) (j : Fin 4096) (k : Fin 256) :
    (iblk m c 1 t : Vec Ideal S4096x256 .f32) (ix2 j k) = zK m c (ix2 j k) := by
  unfold iblk zK
  rw [View.read_apply]
  show V m c main_v8 _ = V m c main_v8 _
  congr 1
  funext a
  apply Fin.ext
  match a with
  | ⟨0, _⟩ =>
    show win0_1.index t 0 * 4096 + 1 * j.val = j.val
    rw [(index1 t).1]; omega
  | ⟨1, _⟩ =>
    show win0_1.index t 1 * 256 + 1 * k.val = k.val
    rw [(index1 t).2]; omega

/-- A row of the point's similarity block is the array row's. -/
theorem row_simBlk (t : Fin cfg0.N) (r : Fin 512) :
    row (simBlk (iblk m c 0 t) (iblk m c 1 t)) r = gram (zK m c) (rowOf t r) := by
  funext j
  unfold row gram
  rw [simBlk_at]
  exact Finset.sum_congr rfl fun k _ => by rw [iblk0_at, iblk1_at]

/-- What the reference's selection leaves of a similarity array, given each row's fifteenth greatest entry. -/
def keptEntry (s : Fin 4096 → Fin 4096 → EReal) (t : Fin 4096 → EReal) (a b : Fin 4096) : EReal :=
  if b = a then 0 else if t a ≤ s a b then s a b else 0

/-- The body's output at an entry, where every row has its fifteen. -/
theorem outBlk_at (t : Fin cfg0.N) (r : Fin 512) (j : Fin 4096) {th : Fin 4096 → EReal}
    (h : ∀ a, Sep (gram (zK m c) a) 15 (th a)) :
    outBlk (grid0.coords t) (iblk m c 0 t) (iblk m c 1 t) (ix2 r j) = keptEntry (gram (zK m c)) th (rowOf t r) j := by
  have hs : Sep (row (simBlk (iblk m c 0 t) (iblk m c 1 t)) r) 15 (th (rowOf t r)) := by
    rw [row_simBlk]; exact h _
  rw [outBlk_eq, stored_at, keptBlk_at _ r hs, row_simBlk]
  unfold keptEntry
  apply ite_congr ?_ (fun _ => rfl) (fun _ => rfl)
  rw [Fin.ext_iff]; rfl

/-- The array the grid leaves is any array that it agrees with block by block. -/
theorem arr_eq (G : Buf (Elt Ideal) (c.tc.loc main_v9)) {th : Fin 4096 → EReal} (h : ∀ a, Sep (gram (zK m c) a) 15 (th a))
    (hG : ∀ a b : Fin 4096, (G : Vec Ideal S4096x4096 .f32) (ix2 a b) = keptEntry (gram (zK m c)) th a b) :
    (dats m 0 c).arrAt 2 cfg0.N = G := by
  refine (dats m 0 c).arrAt_eq_of_cover 2 G (fun t hf => ?_) fun i => ?_
  · show (cfg0.win 2).cut (grid0.coords t) ((dats m 0 c).after 2 t) = _
    rw [after0_2]
    have : outBlk (grid0.coords t) (iblk m c 0 t) (iblk m c 1 t) = fun i => (G : Vec Ideal S4096x4096 .f32) (ix2 (rowOf t (i 0)) (i 1)) := by
      funext i
      have hi : (i : S512x4096.Idx) = ix2 (i 0) (i 1) := by
        funext a; match a with
        | ⟨0, _⟩ => rfl
        | ⟨1, _⟩ => rfl
      conv_lhs => rw [hi]
      exact (outBlk_at m c t (i 0) (i 1) h).trans (hG _ _).symm
    rw [this]
    funext i
    rw [View.read_apply]
    show (G : Vec Ideal S4096x4096 .f32) _ = (G : Vec Ideal S4096x4096 .f32) _
    congr 1
    funext a
    apply Fin.ext
    match a with
    | ⟨0, _⟩ =>
      show 512 * t.val + (i 0).val = win0_2.index t 0 * 512 + 1 * (i 0).val
      rw [(index2 t).1]; omega
    | ⟨1, _⟩ =>
      show (i 1).val = win0_2.index t 1 * 4096 + 1 * (i 1).val
      rw [(index2 t).2]; omega
  · have h0 : (i 0 : Nat) < 4096 := (i 0).isLt
    have h1 : (i 1 : Nat) < 4096 := (i 1).isLt
    have ht : (i 0 : Nat) / 512 < 8 := by omega
    refine ⟨⟨(i 0 : Nat) / 512, ht⟩, flush0_2 _, ?_⟩
    show i ∈ ((View.whole main_v9).slice (win0_2.rect ⟨(i 0 : Nat) / 512, ht⟩)).set
    rw [View.set_slice_whole, Rect.mem_set_unit]
    intro a
    match a with
    | ⟨0, _⟩ =>
      show win0_2.index ⟨(i 0 : Nat) / 512, ht⟩ 0 * 512 ≤ (i 0 : Nat) ∧ (i 0 : Nat) < win0_2.index ⟨(i 0 : Nat) / 512, ht⟩ 0 * 512 + 512
      rw [(index2 _).1]
      show (i 0 : Nat) / 512 * 512 ≤ (i 0 : Nat) ∧ (i 0 : Nat) < (i 0 : Nat) / 512 * 512 + 512
      omega
    | ⟨1, _⟩ =>
      show win0_2.index ⟨(i 0 : Nat) / 512, ht⟩ 1 * 4096 ≤ (i 1 : Nat) ∧ (i 1 : Nat) < win0_2.index ⟨(i 0 : Nat) / 512, ht⟩ 1 * 4096 + 4096
      rw [(index2 _).2]; omega

end Cert.Sim

end
-- ==== Proof.Reference.lean ====
/- The reference's result at extended reals, entry by entry: where the similarity rows fall strictly along their first sixteen
   places, it keeps the entries at or above the fifteenth and puts zero elsewhere and on the diagonal. -/
module

public import proofs.«01_k».proof.Proof.Order
public import proofs.«01_k».proof.Proof.Result
public import proofs.«01_k».proof.Proof.Gen.ReferenceIdeal.Run
public import Idealize.ShloMosaic.Lib.Routing.OpsPair
public import Idealize.ShloMosaic.Lib.Routing.OpsSet

@[expose] public section

set_option maxRecDepth 16384

noncomputable section

namespace Cert.Sim.Ref

open Idealize.ShloMosaic Cert.ReferenceIdeal Cert.ReferenceIdeal.Gen Rank Finset

/-- The normalised rows of the argument arrays. -/
def norms (x : FVec Ideal S4096x512 .f32) (w : FVec Ideal S512x256 .f32) (b : FVec Ideal S256 .f32) : FVec Ideal S4096x256 .f32 :=
  Host.divf (addf (Host.dotGeneral dot_S4096x512_S512x256_S4096x256_1_0_0_1_n_n none x w) (broadcastInDim S4096x256 ![0, 1] bcast_S1x256_S4096x256_0_1 (broadcastInDim S1x256 ![1] bcast_S256_S1x256_1 b))) (broadcastInDim S4096x256 ![0, 1] bcast_S4096x1_S4096x256_0_1 (maximumf (Host.sqrt (broadcastInDim S4096x1 ![0] bcast_S4096_S4096x1_0 (Host.reduceAdd (mulf (addf (Host.dotGeneral dot_S4096x512_S512x256_S4096x256_1_0_0_1_n_n none x w) (broadcastInDim S4096x256 ![0, 1] bcast_S1x256_S4096x256_0_1 (broadcastInDim S1x256 ![1] bcast_S256_S1x256_1 b))) (addf (Host.dotGeneral dot_S4096x512_S512x256_S4096x256_1_0_0_1_n_n none x w) (broadcastInDim S4096x256 ![0, 1] bcast_S1x256_S4096x256_0_1 (broadcastInDim S1x256 ![1] bcast_S256_S1x256_1 b)))) (constant S_ .f32 0x00000000#32) reducesTo_S4096x256_S4096_d1 h_S_))) (broadcastInDim S4096x1 ![] bcast_S_S4096x1 (constant S_ .f32 0x2B8CBCCC#32))))

/-- The similarity array. -/
def sim (z : FVec Ideal S4096x256 .f32) : FVec Ideal S4096x4096 .f32 :=
  Host.dotGeneral dot_S4096x256_S256x4096_S4096x4096_1_0_0_1_n_n none z (transpose S256x4096 [1, 0] z transposes_S4096x256_S256x4096_1_0)

/-- The pairs (row, column) written to, from the columns chosen in each row. -/
def words (t : IVec S4096x15 32) : IVec S4096x15x2 32 :=
  concatenate S4096x15x2 2 [⟨S4096x15x1, (broadcastInDim S4096x15x1 ![0, 1] bcast_S4096x15_S4096x15x1_0_1 (broadcastInDim S4096x15 ![0, 1] bcast_S4096x1_S4096x15_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x15x1, (broadcastInDim S4096x15x1 ![0, 1] bcast_S4096x15_S4096x15x1_0_1 (select (cmpi .slt t (broadcastInDim S4096x15 ![] bcast_S_S4096x15 (constantI S_ 32 0#32))) (addi t (broadcastInDim S4096x15 ![] bcast_S_S4096x15 (constantI S_ 32 4096#32))) t))⟩] concatenates_S4096x15x1_S4096x15x1_S4096x15x2_d2

/-- Ones written at pairs of places into zeros. -/
def written (idx : IVec S4096x15x2 32) : FVec Ideal S4096x4096 .f32 :=
  Host.scatter scatter_S4096x4096_S4096x15x2_S4096x15_n_01_01_2 (fun _ b => b) (broadcastInDim S4096x4096 ![] bcast_S_S4096x4096 (constant S_ .f32 0x00000000#32)) idx (broadcastInDim S4096x15 ![] bcast_S_S4096x15 (constant S_ .f32 0x3F800000#32))

/-- One off the diagonal, zero on it. -/
def offDiag : FVec Ideal S4096x4096 .f32 :=
  subf (broadcastInDim S4096x4096 ![] bcast_S_S4096x4096 (constant S_ .f32 0x3F800000#32)) (uitofp .f32 (cmpi .eq (addi (iotaInDim S4096x4096 32 0) (broadcastInDim S4096x4096 ![] bcast_S_S4096x4096 (constantI S_ 32 0#32))) (iotaInDim S4096x4096 32 1)))

/-- The reference's result, from its normalised rows. -/
def out (z : FVec Ideal S4096x256 .f32) : FVec Ideal S4096x4096 .f32 :=
  mulf (sim z) (mulf (written (words (Host.topK S4096x15 1 (FloatOps.cmpfTotal .gt) (sim z) sliceFits_S4096x4096_S4096x15).2)) offDiag)

/-- What the reference's program computes is `out` of the normalised rows. -/
theorem res_eq (m : (ℓ : Loc nD τ sig) → Buf (Elt Ideal) ℓ) (c : Dev nD) :
    Cert.ReferenceIdeal.Value.res_main_v39 m c
      = out (norms (m ((c.tc : Thread nD τ).loc main_arg0)) (m ((c.tc : Thread nD τ).loc main_arg1)) (m ((c.tc : Thread nD τ).loc main_arg2))) := by
  unfold Cert.ReferenceIdeal.Value.res_main_v39 out written words offDiag sim norms
  rfl

theorem sim_at (z : FVec Ideal S4096x256 .f32) (a b : Fin 4096) : sim z (ix2 a b) = gram z a b := by
  unfold gram
  pointwise [sim]
  try rfl

theorem offDiag_at (a b : Fin 4096) : offDiag (ix2 a b) = if b = a then (0 : EReal) else 1 := by
  pointwise [offDiag]
  have hb : (IntOp.addi (BitVec.ofNat 32 a.val) 0#32 = BitVec.ofNat 32 b.val) ↔ b = a := by
    show BitVec.ofNat 32 a.val + 0#32 = _ ↔ _
    rw [BitVec.add_zero]
    constructor
    · intro h
      have := congrArg BitVec.toNat h
      simp only [BitVec.toNat_ofNat] at this
      apply Fin.ext; omega
    · rintro rfl; rfl
  by_cases h : b = a
  · have : IntOp.cmpi .eq (IntOp.addi (BitVec.ofNat 32 a.val) 0#32) (BitVec.ofNat 32 b.val) = 1#1 := by
      rw [hb.mpr h]; simp [IntOp.cmpi]
    rw [this, if_pos h]
    show (1 : EReal) - (((1#1 : BitVec 1).toNat : ℝ) : EReal) = 0
    have h1 : (((1#1 : BitVec 1).toNat : ℝ) : EReal) = ((1 : ℝ) : EReal) := by norm_num
    rw [h1, ← EReal.coe_one, ← EReal.coe_sub, sub_self, EReal.coe_zero]
  · have hn : (IntOp.addi (BitVec.ofNat 32 a.val) 0#32 == BitVec.ofNat 32 b.val) = false := beq_eq_false_iff_ne.mpr fun e => h (hb.mp e)
    have : IntOp.cmpi .eq (IntOp.addi (BitVec.ofNat 32 a.val) 0#32) (BitVec.ofNat 32 b.val) = 0#1 := by
      simp [IntOp.cmpi, hn]
    rw [this, if_neg h]
    show (1 : EReal) - (((0#1 : BitVec 1).toNat : ℝ) : EReal) = 1
    have h0 : (((0#1 : BitVec 1).toNat : ℝ) : EReal) = 0 := by norm_num
    rw [h0, sub_zero]

theorem words_row (t : IVec S4096x15 32) (a : Fin 4096) (i : Fin 15) : words t (ix3 a i 0) = BitVec.ofNat 32 a.val := by
  pointwise [words]
  exact Routing.wrap_of_lt _ _ (by rw [BitVec.toNat_ofNat]; omega)

theorem words_col (t : IVec S4096x15 32) (a : Fin 4096) (i : Fin 15) (h : (t (ix2 a i)).toNat < 2 ^ 31) :
    words t (ix3 a i 1) = t (ix2 a i) := by
  pointwise [words]
  exact Routing.wrap_of_lt _ _ h

/-- The mask is one exactly at the columns chosen in the row. -/
theorem written_at (t : IVec S4096x15 32) (g : Fin 4096 → Fin 15 → Fin 4096) (hg : ∀ a i, t (ix2 a i) = BitVec.ofNat 32 (g a i).val)
    (a b : Fin 4096) [Decidable (∃ i, g a i = b)] : written (words t) (ix2 a b) = if ∃ i, g a i = b then (1 : EReal) else 0 := by
  have small : ∀ n : Fin 4096, (BitVec.ofNat 32 n.val).toInt = n.val := fun n =>
    StableHlo.Predicate.toInt_ofNat_small _ (by omega)
  have hl : ∀ (a' : Fin 4096) (i : Fin 15), scatter_S4096x4096_S4096x15x2_S4096x15_n_01_01_2.resultIdx? (ix2 a' i) (words t) = some (ix2 a b)
      ↔ a' = a ∧ g a' i = b := by
    intro a' i
    refine (Routing.scatter_lands2 (R := 4096) (C := 4096) (A := 4096) (B := 15) _ rfl rfl rfl (words t) a' i a b).trans ?_
    have e0 : words t (ValueIdx.ix3 a' i 0) = BitVec.ofNat 32 a'.val := words_row t a' i
    have e1 : words t (ValueIdx.ix3 a' i 1) = t (ix2 a' i) := words_col t a' i (by rw [hg, BitVec.toNat_ofNat]; omega)
    rw [e0, e1, hg, small, small, Fin.ext_iff, Fin.ext_iff, Int.natCast_inj, Int.natCast_inj]
  have hk : ∀ k : S4096x15.Idx, k = ix2 (k 0) (k 1) := by
    intro k; funext q
    match q with
    | ⟨0, _⟩ => rfl
    | ⟨1, _⟩ => rfl
  have hone : ∀ k, (broadcastInDim S4096x15 ![] bcast_S_S4096x15 (constant (F := Ideal) S_ .f32 0x3F800000#32)) k = (1 : EReal) := by
    intro k
    rw [hk k]
    pointwise
  unfold written
  split_ifs with h
  · obtain ⟨i, hi⟩ := h
    exact Routing.scatter_set_hit _ _ _ _ _ _ (fun k _ => hone k) (ix2 a i) ((hl a i).mpr ⟨rfl, hi⟩)
  · refine (Routing.scatter_set_miss _ _ _ _ _ fun k hm => ?_).trans ?_
    · rw [hk k] at hm
      obtain ⟨h1, h2⟩ := (hl _ _).mp hm
      rw [h1] at h2
      exact h ⟨_, h2⟩
    · show Ideal.ofBits .f32 0x00000000#32 = 0
      simp [Ideal.ofBits, Ideal.ieee]

/-- The reference's result at an entry, where every row falls strictly. -/
theorem out_at (z : FVec Ideal S4096x256 .f32) (h : ∀ a, Falls (gram z a)) (a b : Fin 4096) :
    out z (ix2 a b) = keptEntry (gram z) (fun a => fifteenth (gram z a)) a b := by
  classical
  have hrow : ∀ a : Fin 4096, (fun j => sim z (ix2 a j)) = gram z a := fun a => funext fun j => sim_at z a j
  have hm := written_at ((Host.topK S4096x15 1 (FloatOps.cmpfTotal .gt) (sim z) sliceFits_S4096x4096_S4096x15).2)
    (fun a i => place (gram z a) ⟨i.val, by omega⟩)
    (fun a i => by rw [← hrow a]; exact (topK_at (sim z) sliceFits_S4096x4096_S4096x15 a i ⟨i.val, by omega⟩ rfl).2) a b
  have hx : (∃ i : Fin 15, place (gram z a) ⟨i.val, by omega⟩ = b) ↔ fifteenth (gram z a) ≤ gram z a b := by
    rw [(h a).le_iff]
    constructor
    · rintro ⟨i, hi⟩; exact ⟨_, i.isLt, hi⟩
    · rintro ⟨p, hp, hi⟩; exact ⟨⟨p.val, hp⟩, hi⟩
  have : out z (ix2 a b) = (sim z (ix2 a b) : EReal) * ((written (words (Host.topK S4096x15 1 (FloatOps.cmpfTotal .gt) (sim z) sliceFits_S4096x4096_S4096x15).2) (ix2 a b) : EReal) * offDiag (ix2 a b)) := rfl
  rw [this, hm, offDiag_at, sim_at]
  unfold keptEntry
  by_cases h1 : b = a
  · rw [if_pos h1, if_pos h1, mul_zero, mul_zero]
  · rw [if_neg h1, if_neg h1, mul_one, if_congr hx rfl rfl]
    split_ifs
    · rw [mul_one]
    · rw [mul_zero]

end Cert.Sim.Ref

end
-- ==== Proof.Value.lean ====
/- The two programs' values joined: both start from the same normalised rows, the precondition makes every similarity row
   fall strictly, and then the array the kernel leaves is the reference's. -/
module

public import proofs.«01_k».proof.Proof.Reference
public import proofs.«01_k».proof.Proof.Gen.Pre_no_ties
public import Idealize.ShloMosaic.Lib.Claim

@[expose] public section

set_option maxRecDepth 16384

noncomputable section

namespace Cert.Sim

open Idealize.ShloMosaic Idealize.ShloMosaic.TcCoe Idealize.SL.Sem Rank Finset

/-- A comparison of the first fifteen values with the fifteen after the first, at an entry. -/
theorem drops_at (v : FVec Ideal Cert.Pre_no_ties.S4096x16 .f32) (a : Fin 4096) (i : Fin 15)
    (h0 : Cert.Pre_no_ties.S4096x16.Slices ![0, 0] Cert.Pre_no_ties.S4096x15) (h1 : Cert.Pre_no_ties.S4096x16.Slices ![0, 1] Cert.Pre_no_ties.S4096x15)
    (h : cmpf .ogt (extractStridedSlice Cert.Pre_no_ties.S4096x15 ![0, 0] v h0) (extractStridedSlice Cert.Pre_no_ties.S4096x15 ![0, 1] v h1) (ix2 a i) = 1#1) :
    (v (ix2 a ⟨i.val + 1, by omega⟩) : EReal) < v (ix2 a ⟨i.val, by omega⟩) := by
  have hs : ∀ (k : Nat) (hk : Cert.Pre_no_ties.S4096x16.Slices ![0, k] Cert.Pre_no_ties.S4096x15) (q : Fin 16), q.val = k + i.val →
      extractStridedSlice Cert.Pre_no_ties.S4096x15 ![0, k] v hk (ix2 a i) = v (ix2 a q) := by
    intro k hk q hq
    unfold extractStridedSlice
    congr 1
    funext x; apply Fin.ext
    match x with
    | ⟨0, _⟩ => exact Nat.zero_add _
    | ⟨1, _⟩ => exact hq.symm
  have h : BitVec.ofBool (decide ((extractStridedSlice Cert.Pre_no_ties.S4096x15 ![0, 1] v h1 (ix2 a i) : EReal)
      < extractStridedSlice Cert.Pre_no_ties.S4096x15 ![0, 0] v h0 (ix2 a i))) = 1#1 := h
  rw [ofBool_one, hs 1 h1 ⟨i.val + 1, by omega⟩ (Nat.add_comm _ _), hs 0 h0 ⟨i.val, by omega⟩ (Nat.zero_add _).symm] at h
  exact of_decide_eq_true h

/-- Under the precondition every similarity row's first sixteen entries strictly decrease. -/
theorem falls_of_pre (x : FVec Ideal Cert.ReferenceIdeal.S4096x512 .f32) (w : FVec Ideal Cert.ReferenceIdeal.S512x256 .f32)
    (b : FVec Ideal Cert.ReferenceIdeal.S256 .f32) (h : Cert.Pre_no_ties.fn (F := Ideal) x w b = fun _ => 1#1) (a : Fin 4096) :
    Falls (gram (Ref.norms x w b) a) := by
  intro i
  have hrow : (fun j => Ref.sim (Ref.norms x w b) (ix2 a j)) = gram (Ref.norms x w b) a := funext fun j => Ref.sim_at _ a j
  have h := congrFun h (ix2 a i)
  have h := drops_at ((Host.topK Cert.Pre_no_ties.S4096x16 1 (FloatOps.cmpfTotal .gt) (Ref.sim (Ref.norms x w b))
    Cert.Pre_no_ties.Gen.sliceFits_S4096x4096_S4096x16).1) a i _ _ h
  have hv : ∀ (q : Fin 16) (q' : Fin 4096), q'.val = q.val → (Host.topK Cert.Pre_no_ties.S4096x16 1 (FloatOps.cmpfTotal .gt) (Ref.sim (Ref.norms x w b))
      Cert.Pre_no_ties.Gen.sliceFits_S4096x4096_S4096x16).1 (ix2 a q) = gram (Ref.norms x w b) a (place (gram (Ref.norms x w b) a) q') := by
    intro q q' hq
    rw [← hrow]
    exact (topK_at (n := 16) (Ref.sim (Ref.norms x w b)) Cert.Pre_no_ties.Gen.sliceFits_S4096x4096_S4096x16 a q q' hq).1
  rw [hv _ ⟨i.val + 1, by omega⟩ rfl, hv _ ⟨i.val, by omega⟩ rfl] at h
  exact h

section

open Cert.KernelIdeal Cert.KernelIdeal.Gen

/-- The kernel's program normalises the rows as the reference does, before its grid runs. -/
theorem zK_eq (m : (ℓ : Loc nD τ sig) → Buf (Elt Ideal) ℓ) (c : Dev nD) :
    zK m c = Ref.norms (m ((c.tc : Thread nD τ).loc main_arg0)) (m ((c.tc : Thread nD τ).loc main_arg1)) (m ((c.tc : Thread nD τ).loc main_arg2)) := by
  unfold zK Ref.norms
  entry_read
  rfl

/-- The kernel's run at extended reals: its result array is the reference's result of the arguments it was given. -/
theorem run_value (m : (ℓ : Loc nD τ sig) → Buf (Elt Ideal) ℓ) (ρ : Dev nD → PrngReg)
    (h : ∀ c : Dev nD, Cert.Pre_no_ties.fn (F := Ideal) (m ((c.tc : Thread nD τ).loc main_arg0)) (m ((c.tc : Thread nD τ).loc main_arg1)) (m ((c.tc : Thread nD τ).loc main_arg2)) = fun _ => 1#1) :
    θ_run defs (onTc (τ := τ) (main (F := Ideal))) ⟨m, fun _ => 0, ρ⟩ (fun r => ∀ c : Dev nD,
      r.2.mem ((c.tc : Thread nD τ).loc main_v9)
          = Ref.out (Ref.norms (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hf := fun c a => falls_of_pre _ _ _ (h c) a
  refine (θ_run defs _ _).mono (fun r hr c => ⟨?_, hr.2 c⟩) (θ_run_and (run_main m ρ) (frame_of m ρ (dats m) (A_eq m) (run_main m ρ)))
  refine ((hr.1 c).1 2).trans ?_
  refine arr_eq m c _ (th := fun a => fifteenth (gram (zK m c) a)) (fun a => ?_) (fun a b => ?_)
  · rw [zK_eq]; exact (hf c a).sep
  · rw [zK_eq]; exact Ref.out_at _ (hf c) a b

end

end Cert.Sim

end
-- ==== Proof.lean ====
module

public import proofs.«01_k».proof.Defs
public import proofs.«01_k».proof.Proof.Value
public import proofs.«01_k».proof.Proof.Gen.Kernel
public import proofs.«01_k».proof.Proof.Gen.ReferenceIdeal.Run
public import proofs.«01_k».proof.Proof.Gen.Pre_no_ties

@[expose] public section

noncomputable section

namespace Cert.Proof

open Idealize.ShloMosaic Idealize.SL.Sem

set_option maxRecDepth 65536 in
/-- The printed kernel's body table is the idealized kernel's at bit patterns: the two programs are one text. -/
theorem bodies_eq : Cert.Kernel.defs₀ (F := Bits) = Cert.KernelIdeal.defs₀ (F := Bits) := by
  unfold Cert.Kernel.defs₀ Cert.KernelIdeal.defs₀
  refine congrArg _ ?_
  funext l a
  fin_cases l
  rfl

/-- So are the tables with the pipeline's own labels. -/
theorem defs_eq : Cert.Kernel.defs (F := Bits) = Cert.KernelIdeal.defs (F := Bits) := by
  unfold Cert.Kernel.defs Cert.KernelIdeal.defs
  exact congrArg (Pipeline.defs Cert.KernelIdeal.pcfgs) bodies_eq

/-- The printed kernel's frame, from the run of the idealized kernel at bit patterns. -/
theorem frame_kernel : Cert.quiescent_Kernel := fun m ρ _ => by
  rw [defs_eq]
  exact Cert.Sim.frame (F := Bits) m ρ

/-- The reference's frame: its run leaves the arguments unchanged, and it declares no semaphore. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      (∀ c : Dev Cert.ReferenceIdeal.nD,
        r.2.mem (c.tc.loc Cert.ReferenceIdeal.main_arg0) = m (c.tc.loc Cert.ReferenceIdeal.main_arg0) ∧
        r.2.mem (c.tc.loc Cert.ReferenceIdeal.main_arg1) = m (c.tc.loc Cert.ReferenceIdeal.main_arg1) ∧
        r.2.mem (c.tc.loc Cert.ReferenceIdeal.main_arg2) = m (c.tc.loc Cert.ReferenceIdeal.main_arg2)) ∧ r.2.sem = fun _ => 0 :=
  (θ_run Cert.ReferenceIdeal.defs _ _).mono (fun r h => ⟨fun c => (h c).2, sem_eq_zero_of_no_sems (by decide) r.2⟩)
    (Cert.ReferenceIdeal.Value.run m ρ)

/-- Where the fifteen greatest similarities of every row stand apart, the kernel and the reference end with equal results. -/
theorem algebraic : Cert.algebraic_KernelIdeal_ReferenceIdeal_pre_no_ties := fun m g m' g' hpre harg =>
  ⟨fun c => Cert.Sim.Ref.out (Cert.Sim.Ref.norms (m (c.tc.loc Cert.KernelIdeal.main_arg0)) (m (c.tc.loc Cert.KernelIdeal.main_arg1))
      (m (c.tc.loc Cert.KernelIdeal.main_arg2))),
    Cert.Sim.run_value m g hpre,
    (θ_run Cert.ReferenceIdeal.defs _ _).mono (fun r h c => ⟨((h c).1.trans (Cert.Sim.Ref.res_eq m' c)).trans (by
      rw [(harg c).1, (harg c).2.1, (harg c).2.2]), (h c).2⟩) (Cert.ReferenceIdeal.Value.run m' g')⟩

theorem claim : Cert.Claim := ⟨Cert.Kernel.Gen.facts, Cert.KernelIdeal.Gen.facts, Cert.ReferenceIdeal.Gen.facts, Cert.Pre_no_ties.Gen.facts, by
  exact ⟨frame_kernel, fun m ρ _ => Cert.Sim.frame (F := Ideal) m ρ, fun m ρ _ => Cert.Sim.frame (F := Ideal) m ρ, fun m ρ _ => frame_reference m ρ, fun m ρ _ => frame_reference m ρ, trivial, algebraic⟩⟩

end Cert.Proof

end
